-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![16384, 1024]⟩ (Layout.meshBlock [2, 4, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S6x128x1024 : Shape := ⟨3, ![6, 128, 1024]⟩
abbrev S6 : Shape := ⟨1, ![6]⟩
abbrev S8 : Shape := ⟨1, ![8]⟩
abbrev S4 : Shape := ⟨1, ![4]⟩
abbrev S1 : Shape := ⟨1, ![1]⟩
abbrev S_ : Shape := ⟨0, ![]⟩
abbrev S1x128x1024 : Shape := ⟨3, ![1, 128, 1024]⟩
abbrev S128x1024 : Shape := ⟨2, ![128, 1024]⟩
abbrev S256x1024 : Shape := ⟨2, ![256, 1024]⟩

abbrev nBuf : Space → Nat
  | .hbm => 2
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .local _ .vmem, ⟨0, _⟩ => ⟨S4096x1024, .f32⟩
  | .local _ .vmem, ⟨1, _⟩ => ⟨S4096x1024, .f32⟩
  | .local _ .vmem, ⟨2, _⟩ => ⟨S6x128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  (ofTc nBuf bufTy 1 76 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_31 : BitVec 32 := 16#32
  let v54 : BitVec 32 := Scalar.muli v2 c16_i32_31
  let v55 : BitVec 32 := Scalar.addi c0_i32_32 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_33 : BitVec 32 := 4#32
  let v56 : BitVec 32 := Scalar.muli v5 c4_i32_33
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_34 : BitVec 32 := 1#32
  let v58 : BitVec 32 := Scalar.muli v19 c1_i32_34
  let v59 : BitVec 32 := Scalar.addi v57 v58
  v59.toNat
def k0_dev2 (d0 : Dev nD) : Nat :=
  let c0_i32_37 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_36 : BitVec 32 := 16#32
  let v60 : BitVec 32 := Scalar.muli v2 c16_i32_36
  let v61 : BitVec 32 := Scalar.addi c0_i32_37 v60
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_38 : BitVec 32 := 4#32
  let v62 : BitVec 32 := Scalar.muli v5 c4_i32_38
  let v63 : BitVec 32 := Scalar.addi v61 v62
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.subi v8 c1_i32_23
  let c4_i32_24 : BitVec 32 := 4#32
  let c0_i32_25 : BitVec 32 := 0#32
  let v44 : BitVec 1 := Scalar.cmpi .eq c4_i32_24 c0_i32_25
  let c1_i32_26 : BitVec 32 := 1#32
  let v45 : BitVec 32 := Scalar.select v44 c1_i32_26 c4_i32_24
  let v46 : BitVec 32 := Scalar.remsi v43 v45
  let c0_i32_28 : BitVec 32 := 0#32
  let v48 : BitVec 1 := Scalar.cmpi .slt v46 c0_i32_28
  let c0_i32_29 : BitVec 32 := 0#32
  let v49 : BitVec 1 := Scalar.cmpi .slt v45 c0_i32_29
  let v50 : BitVec 1 := Scalar.xori v48 v49
  let c0_i32_27 : BitVec 32 := 0#32
  let v47 : BitVec 1 := Scalar.cmpi .ne v46 c0_i32_27
  let v51 : BitVec 1 := Scalar.andi v50 v47
  let v52 : BitVec 32 := Scalar.addi v46 v45
  let v53 : BitVec 32 := Scalar.select v51 v52 v46
  let c1_i32_39 : BitVec 32 := 1#32
  let v64 : BitVec 32 := Scalar.muli v53 c1_i32_39
  let v65 : BitVec 32 := Scalar.addi v63 v64
  v65.toNat
def k0_dev3 (d0 : Dev nD) : Nat :=
  let c0_i32_42 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v30 : BitVec 32 := Scalar.subi c1_i32_14 v2
  let c16_i32_41 : BitVec 32 := 16#32
  let v66 : BitVec 32 := Scalar.muli v30 c16_i32_41
  let v67 : BitVec 32 := Scalar.addi c0_i32_42 v66
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_43 : BitVec 32 := 4#32
  let v68 : BitVec 32 := Scalar.muli v5 c4_i32_43
  let v69 : BitVec 32 := Scalar.addi v67 v68
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_44 : BitVec 32 := 1#32
  let v70 : BitVec 32 := Scalar.muli v8 c1_i32_44
  let v71 : BitVec 32 := Scalar.addi v69 v70
  v71.toNat
def k0_dev4 (d0 : Dev nD) : Nat :=
  let c0_i32_47 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_46 : BitVec 32 := 16#32
  let v72 : BitVec 32 := Scalar.muli v2 c16_i32_46
  let v73 : BitVec 32 := Scalar.addi c0_i32_47 v72
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.xori v5 c1_i32_15
  let c4_i32_48 : BitVec 32 := 4#32
  let v74 : BitVec 32 := Scalar.muli v31 c4_i32_48
  let v75 : BitVec 32 := Scalar.addi v73 v74
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v76 : BitVec 32 := Scalar.muli v8 c1_i32_49
  let v77 : BitVec 32 := Scalar.addi v75 v76
  v77.toNat
def k0_dev5 (d0 : Dev nD) : Nat :=
  let c0_i32_52 : BitVec 32 := 0#32
  let c1_i32_21 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v40 : BitVec 32 := Scalar.subi c1_i32_21 v2
  let c16_i32_51 : BitVec 32 := 16#32
  let v78 : BitVec 32 := Scalar.muli v40 c16_i32_51
  let v79 : BitVec 32 := Scalar.addi c0_i32_52 v78
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_22 : BitVec 32 := 1#32
  let v41 : BitVec 32 := Scalar.xori v5 c1_i32_22
  let c4_i32_53 : BitVec 32 := 4#32
  let v80 : BitVec 32 := Scalar.muli v41 c4_i32_53
  let v81 : BitVec 32 := Scalar.addi v79 v80
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_54 : BitVec 32 := 1#32
  let v82 : BitVec 32 := Scalar.muli v8 c1_i32_54
  let v83 : BitVec 32 := Scalar.addi v81 v82
  v83.toNat
def k0_off1 (d0 : Dev nD) (c0_i32_76 : BitVec 32) (c0_i32_83 : BitVec 32) : Fin 2 → Nat :=
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v32 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v5 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v33 : BitVec 32 := Scalar.addi v32 v29
  let c1024_i32 : BitVec 32 := 1024#32
  let v128 : BitVec 32 := Scalar.muli v33 c1024_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v117 : BitVec 32 := Scalar.subi v8 c0_i32_76
  let c4_i32_77 : BitVec 32 := 4#32
  let c0_i32_78 : BitVec 32 := 0#32
  let v118 : BitVec 1 := Scalar.cmpi .eq c4_i32_77 c0_i32_78
  let c1_i32_79 : BitVec 32 := 1#32
  let v119 : BitVec 32 := Scalar.select v118 c1_i32_79 c4_i32_77
  let v120 : BitVec 32 := Scalar.remsi v117 v119
  let c0_i32_81 : BitVec 32 := 0#32
  let v122 : BitVec 1 := Scalar.cmpi .slt v120 c0_i32_81
  let c0_i32_82 : BitVec 32 := 0#32
  let v123 : BitVec 1 := Scalar.cmpi .slt v119 c0_i32_82
  let v124 : BitVec 1 := Scalar.xori v122 v123
  let c0_i32_80 : BitVec 32 := 0#32
  let v121 : BitVec 1 := Scalar.cmpi .ne v120 c0_i32_80
  let v125 : BitVec 1 := Scalar.andi v124 v121
  let v126 : BitVec 32 := Scalar.addi v120 v119
  let v127 : BitVec 32 := Scalar.select v125 v126 v120
  let c256_i32 : BitVec 32 := 256#32
  let v129 : BitVec 32 := Scalar.muli v127 c256_i32
  let v130 : BitVec 32 := Scalar.addi v128 v129
  let v131 : BitVec 32 := Scalar.addi v130 c0_i32_83
  let c0_i32_93 : BitVec 32 := 0#32
  ![v131.toNat, 0]
def k0_dev6 (d0 : Dev nD) : Nat :=
  let c0_i32_88 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_87 : BitVec 32 := 16#32
  let v132 : BitVec 32 := Scalar.muli v2 c16_i32_87
  let v133 : BitVec 32 := Scalar.addi c0_i32_88 v132
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_89 : BitVec 32 := 4#32
  let v134 : BitVec 32 := Scalar.muli v5 c4_i32_89
  let v135 : BitVec 32 := Scalar.addi v133 v134
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_90 : BitVec 32 := 1#32
  let v136 : BitVec 32 := Scalar.muli v19 c1_i32_90
  let v137 : BitVec 32 := Scalar.addi v135 v136
  v137.toNat
def k0_dev7 (d0 : Dev nD) : Nat :=
  let c0_i32_107 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_106 : BitVec 32 := 16#32
  let v160 : BitVec 32 := Scalar.muli v2 c16_i32_106
  let v161 : BitVec 32 := Scalar.addi c0_i32_107 v160
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_108 : BitVec 32 := 4#32
  let v162 : BitVec 32 := Scalar.muli v5 c4_i32_108
  let v163 : BitVec 32 := Scalar.addi v161 v162
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_109 : BitVec 32 := 1#32
  let v164 : BitVec 32 := Scalar.muli v19 c1_i32_109
  let v165 : BitVec 32 := Scalar.addi v163 v164
  v165.toNat
def k0_off2 (d0 : Dev nD) (c0_i32_113 : BitVec 32) (c0_i32_140 : BitVec 32) : Fin 2 → Nat :=
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v32 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v5 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v33 : BitVec 32 := Scalar.addi v32 v29
  let c1024_i32_138 : BitVec 32 := 1024#32
  let v201 : BitVec 32 := Scalar.muli v33 c1024_i32_138
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v173 : BitVec 32 := Scalar.subi v8 c0_i32_113
  let c1_i32_114 : BitVec 32 := 1#32
  let v174 : BitVec 32 := Scalar.subi v173 c1_i32_114
  let c4_i32_115 : BitVec 32 := 4#32
  let c0_i32_116 : BitVec 32 := 0#32
  let v175 : BitVec 1 := Scalar.cmpi .eq c4_i32_115 c0_i32_116
  let c1_i32_117 : BitVec 32 := 1#32
  let v176 : BitVec 32 := Scalar.select v175 c1_i32_117 c4_i32_115
  let v177 : BitVec 32 := Scalar.remsi v174 v176
  let c0_i32_119 : BitVec 32 := 0#32
  let v179 : BitVec 1 := Scalar.cmpi .slt v177 c0_i32_119
  let c0_i32_120 : BitVec 32 := 0#32
  let v180 : BitVec 1 := Scalar.cmpi .slt v176 c0_i32_120
  let v181 : BitVec 1 := Scalar.xori v179 v180
  let c0_i32_118 : BitVec 32 := 0#32
  let v178 : BitVec 1 := Scalar.cmpi .ne v177 c0_i32_118
  let v182 : BitVec 1 := Scalar.andi v181 v178
  let v183 : BitVec 32 := Scalar.addi v177 v176
  let v184 : BitVec 32 := Scalar.select v182 v183 v177
  let c256_i32_139 : BitVec 32 := 256#32
  let v202 : BitVec 32 := Scalar.muli v184 c256_i32_139
  let v203 : BitVec 32 := Scalar.addi v201 v202
  let v204 : BitVec 32 := Scalar.addi v203 c0_i32_140
  let v205 : Index := Scalar.indexCast v204
  let c0 : Index := 0#32
  ![v205.toNat, 0]
def k0_dev8 (d0 : Dev nD) : Nat :=
  let c0_i32_162 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_161 : BitVec 32 := 16#32
  let v232 : BitVec 32 := Scalar.muli v2 c16_i32_161
  let v233 : BitVec 32 := Scalar.addi c0_i32_162 v232
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_163 : BitVec 32 := 4#32
  let v234 : BitVec 32 := Scalar.muli v5 c4_i32_163
  let v235 : BitVec 32 := Scalar.addi v233 v234
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_164 : BitVec 32 := 1#32
  let v236 : BitVec 32 := Scalar.muli v19 c1_i32_164
  let v237 : BitVec 32 := Scalar.addi v235 v236
  v237.toNat
def k0_dev9 (d0 : Dev nD) : Nat :=
  let c0_i32_208 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_207 : BitVec 32 := 16#32
  let v292 : BitVec 32 := Scalar.muli v2 c16_i32_207
  let v293 : BitVec 32 := Scalar.addi c0_i32_208 v292
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_209 : BitVec 32 := 4#32
  let v294 : BitVec 32 := Scalar.muli v5 c4_i32_209
  let v295 : BitVec 32 := Scalar.addi v293 v294
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_210 : BitVec 32 := 1#32
  let v296 : BitVec 32 := Scalar.muli v19 c1_i32_210
  let v297 : BitVec 32 := Scalar.addi v295 v296
  v297.toNat
def k0_dev10 (d0 : Dev nD) : Nat :=
  let c0_i32_263 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_262 : BitVec 32 := 16#32
  let v364 : BitVec 32 := Scalar.muli v2 c16_i32_262
  let v365 : BitVec 32 := Scalar.addi c0_i32_263 v364
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_264 : BitVec 32 := 4#32
  let v366 : BitVec 32 := Scalar.muli v5 c4_i32_264
  let v367 : BitVec 32 := Scalar.addi v365 v366
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_265 : BitVec 32 := 1#32
  let v368 : BitVec 32 := Scalar.muli v19 c1_i32_265
  let v369 : BitVec 32 := Scalar.addi v367 v368
  v369.toNat
def k0_dev11 (d0 : Dev nD) : Nat :=
  let c0_i32_310 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_309 : BitVec 32 := 16#32
  let v424 : BitVec 32 := Scalar.muli v2 c16_i32_309
  let v425 : BitVec 32 := Scalar.addi c0_i32_310 v424
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_311 : BitVec 32 := 4#32
  let v426 : BitVec 32 := Scalar.muli v5 c4_i32_311
  let v427 : BitVec 32 := Scalar.addi v425 v426
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_312 : BitVec 32 := 1#32
  let v428 : BitVec 32 := Scalar.muli v19 c1_i32_312
  let v429 : BitVec 32 := Scalar.addi v427 v428
  v429.toNat
def k0_off3 (d0 : Dev nD) (c0_i32_356 : BitVec 32) : Fin 2 → Nat :=
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v32 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v5 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v33 : BitVec 32 := Scalar.addi v32 v29
  let c1024_i32_354 : BitVec 32 := 1024#32
  let v485 : BitVec 32 := Scalar.muli v33 c1024_i32_354
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_55 : BitVec 32 := 1#32
  let v84 : BitVec 32 := Scalar.addi v8 c1_i32_55
  let c4_i32_56 : BitVec 32 := 4#32
  let c0_i32_57 : BitVec 32 := 0#32
  let v85 : BitVec 1 := Scalar.cmpi .eq c4_i32_56 c0_i32_57
  let c1_i32_58 : BitVec 32 := 1#32
  let v86 : BitVec 32 := Scalar.select v85 c1_i32_58 c4_i32_56
  let v87 : BitVec 32 := Scalar.remsi v84 v86
  let c0_i32_60 : BitVec 32 := 0#32
  let v89 : BitVec 1 := Scalar.cmpi .slt v87 c0_i32_60
  let c0_i32_61 : BitVec 32 := 0#32
  let v90 : BitVec 1 := Scalar.cmpi .slt v86 c0_i32_61
  let v91 : BitVec 1 := Scalar.xori v89 v90
  let c0_i32_59 : BitVec 32 := 0#32
  let v88 : BitVec 1 := Scalar.cmpi .ne v87 c0_i32_59
  let v92 : BitVec 1 := Scalar.andi v91 v88
  let v93 : BitVec 32 := Scalar.addi v87 v86
  let v94 : BitVec 32 := Scalar.select v92 v93 v87
  let c256_i32_355 : BitVec 32 := 256#32
  let v486 : BitVec 32 := Scalar.muli v94 c256_i32_355
  let v487 : BitVec 32 := Scalar.addi v485 v486
  let v488 : BitVec 32 := Scalar.addi v487 c0_i32_356
  let c0_i32_363 : BitVec 32 := 0#32
  ![v488.toNat, 0]
def k0_dev12 (d0 : Dev nD) : Nat :=
  let c0_i32_360 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v30 : BitVec 32 := Scalar.subi c1_i32_14 v2
  let c16_i32_359 : BitVec 32 := 16#32
  let v489 : BitVec 32 := Scalar.muli v30 c16_i32_359
  let v490 : BitVec 32 := Scalar.addi c0_i32_360 v489
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_361 : BitVec 32 := 4#32
  let v491 : BitVec 32 := Scalar.muli v5 c4_i32_361
  let v492 : BitVec 32 := Scalar.addi v490 v491
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_362 : BitVec 32 := 1#32
  let v493 : BitVec 32 := Scalar.muli v8 c1_i32_362
  let v494 : BitVec 32 := Scalar.addi v492 v493
  v494.toNat
def k0_dev13 (d0 : Dev nD) : Nat :=
  let c0_i32_374 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_373 : BitVec 32 := 16#32
  let v509 : BitVec 32 := Scalar.muli v2 c16_i32_373
  let v510 : BitVec 32 := Scalar.addi c0_i32_374 v509
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.xori v5 c1_i32_15
  let c4_i32_375 : BitVec 32 := 4#32
  let v511 : BitVec 32 := Scalar.muli v31 c4_i32_375
  let v512 : BitVec 32 := Scalar.addi v510 v511
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_376 : BitVec 32 := 1#32
  let v513 : BitVec 32 := Scalar.muli v8 c1_i32_376
  let v514 : BitVec 32 := Scalar.addi v512 v513
  v514.toNat
def k0_dev14 (d0 : Dev nD) : Nat :=
  let c0_i32_388 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_387 : BitVec 32 := 16#32
  let v529 : BitVec 32 := Scalar.muli v2 c16_i32_387
  let v530 : BitVec 32 := Scalar.addi c0_i32_388 v529
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v531 : BitVec 32 := Scalar.muli v5 c4_i32_389
  let v532 : BitVec 32 := Scalar.addi v530 v531
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_390 : BitVec 32 := 1#32
  let v533 : BitVec 32 := Scalar.muli v19 c1_i32_390
  let v534 : BitVec 32 := Scalar.addi v532 v533
  v534.toNat
def k0_dev15 (d0 : Dev nD) : Nat :=
  let c0_i32_429 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v30 : BitVec 32 := Scalar.subi c1_i32_14 v2
  let c16_i32_428 : BitVec 32 := 16#32
  let v581 : BitVec 32 := Scalar.muli v30 c16_i32_428
  let v582 : BitVec 32 := Scalar.addi c0_i32_429 v581
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_430 : BitVec 32 := 4#32
  let v583 : BitVec 32 := Scalar.muli v5 c4_i32_430
  let v584 : BitVec 32 := Scalar.addi v582 v583
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_431 : BitVec 32 := 1#32
  let v585 : BitVec 32 := Scalar.muli v8 c1_i32_431
  let v586 : BitVec 32 := Scalar.addi v584 v585
  v586.toNat
def k0_dev16 (d0 : Dev nD) : Nat :=
  let c0_i32_443 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_442 : BitVec 32 := 16#32
  let v601 : BitVec 32 := Scalar.muli v2 c16_i32_442
  let v602 : BitVec 32 := Scalar.addi c0_i32_443 v601
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.xori v5 c1_i32_15
  let c4_i32_444 : BitVec 32 := 4#32
  let v603 : BitVec 32 := Scalar.muli v31 c4_i32_444
  let v604 : BitVec 32 := Scalar.addi v602 v603
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_445 : BitVec 32 := 1#32
  let v605 : BitVec 32 := Scalar.muli v8 c1_i32_445
  let v606 : BitVec 32 := Scalar.addi v604 v605
  v606.toNat
def k0_dev17 (d0 : Dev nD) : Nat :=
  let c0_i32_457 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_456 : BitVec 32 := 16#32
  let v621 : BitVec 32 := Scalar.muli v2 c16_i32_456
  let v622 : BitVec 32 := Scalar.addi c0_i32_457 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_458 : BitVec 32 := 4#32
  let v623 : BitVec 32 := Scalar.muli v5 c4_i32_458
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_459 : BitVec 32 := 1#32
  let v625 : BitVec 32 := Scalar.muli v19 c1_i32_459
  let v626 : BitVec 32 := Scalar.addi v624 v625
  v626.toNat
def k0_off4 (d0 : Dev nD) (c0_i32_480 : BitVec 32) : Fin 2 → Nat :=
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v32 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v5 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v33 : BitVec 32 := Scalar.addi v32 v29
  let c1024_i32_478 : BitVec 32 := 1024#32
  let v651 : BitVec 32 := Scalar.muli v33 c1024_i32_478
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_479 : BitVec 32 := 256#32
  let v652 : BitVec 32 := Scalar.muli v8 c256_i32_479
  let v653 : BitVec 32 := Scalar.addi v651 v652
  let v654 : BitVec 32 := Scalar.addi v653 c0_i32_480
  let c0_i32_487 : BitVec 32 := 0#32
  ![v654.toNat, 0]
def k0_dev18 (d0 : Dev nD) : Nat :=
  let c0_i32_484 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v30 : BitVec 32 := Scalar.subi c1_i32_14 v2
  let c16_i32_483 : BitVec 32 := 16#32
  let v655 : BitVec 32 := Scalar.muli v30 c16_i32_483
  let v656 : BitVec 32 := Scalar.addi c0_i32_484 v655
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_485 : BitVec 32 := 4#32
  let v657 : BitVec 32 := Scalar.muli v5 c4_i32_485
  let v658 : BitVec 32 := Scalar.addi v656 v657
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_486 : BitVec 32 := 1#32
  let v659 : BitVec 32 := Scalar.muli v8 c1_i32_486
  let v660 : BitVec 32 := Scalar.addi v658 v659
  v660.toNat
def k0_dev19 (d0 : Dev nD) : Nat :=
  let c0_i32_498 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_497 : BitVec 32 := 16#32
  let v675 : BitVec 32 := Scalar.muli v2 c16_i32_497
  let v676 : BitVec 32 := Scalar.addi c0_i32_498 v675
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.xori v5 c1_i32_15
  let c4_i32_499 : BitVec 32 := 4#32
  let v677 : BitVec 32 := Scalar.muli v31 c4_i32_499
  let v678 : BitVec 32 := Scalar.addi v676 v677
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_500 : BitVec 32 := 1#32
  let v679 : BitVec 32 := Scalar.muli v8 c1_i32_500
  let v680 : BitVec 32 := Scalar.addi v678 v679
  v680.toNat
def k0_dev20 (d0 : Dev nD) : Nat :=
  let c0_i32_512 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_511 : BitVec 32 := 16#32
  let v695 : BitVec 32 := Scalar.muli v2 c16_i32_511
  let v696 : BitVec 32 := Scalar.addi c0_i32_512 v695
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_513 : BitVec 32 := 4#32
  let v697 : BitVec 32 := Scalar.muli v5 c4_i32_513
  let v698 : BitVec 32 := Scalar.addi v696 v697
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_514 : BitVec 32 := 1#32
  let v699 : BitVec 32 := Scalar.muli v19 c1_i32_514
  let v700 : BitVec 32 := Scalar.addi v698 v699
  v700.toNat
def k0_dev21 (d0 : Dev nD) : Nat :=
  let c0_i32_539 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v30 : BitVec 32 := Scalar.subi c1_i32_14 v2
  let c16_i32_538 : BitVec 32 := 16#32
  let v729 : BitVec 32 := Scalar.muli v30 c16_i32_538
  let v730 : BitVec 32 := Scalar.addi c0_i32_539 v729
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_540 : BitVec 32 := 4#32
  let v731 : BitVec 32 := Scalar.muli v5 c4_i32_540
  let v732 : BitVec 32 := Scalar.addi v730 v731
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_541 : BitVec 32 := 1#32
  let v733 : BitVec 32 := Scalar.muli v8 c1_i32_541
  let v734 : BitVec 32 := Scalar.addi v732 v733
  v734.toNat
def k0_dev22 (d0 : Dev nD) : Nat :=
  let c0_i32_553 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_552 : BitVec 32 := 16#32
  let v749 : BitVec 32 := Scalar.muli v2 c16_i32_552
  let v750 : BitVec 32 := Scalar.addi c0_i32_553 v749
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.xori v5 c1_i32_15
  let c4_i32_554 : BitVec 32 := 4#32
  let v751 : BitVec 32 := Scalar.muli v31 c4_i32_554
  let v752 : BitVec 32 := Scalar.addi v750 v751
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_555 : BitVec 32 := 1#32
  let v753 : BitVec 32 := Scalar.muli v8 c1_i32_555
  let v754 : BitVec 32 := Scalar.addi v752 v753
  v754.toNat
def k0_dev23 (d0 : Dev nD) : Nat :=
  let c0_i32_567 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_566 : BitVec 32 := 16#32
  let v769 : BitVec 32 := Scalar.muli v2 c16_i32_566
  let v770 : BitVec 32 := Scalar.addi c0_i32_567 v769
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_568 : BitVec 32 := 4#32
  let v771 : BitVec 32 := Scalar.muli v5 c4_i32_568
  let v772 : BitVec 32 := Scalar.addi v770 v771
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_569 : BitVec 32 := 1#32
  let v773 : BitVec 32 := Scalar.muli v19 c1_i32_569
  let v774 : BitVec 32 := Scalar.addi v772 v773
  v774.toNat
def k0_off5 (d0 : Dev nD) : Fin 2 → Nat :=
  let c2_i32_19 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v37 : BitVec 32 := Scalar.muli c2_i32_19 v2
  let c1_i32_20 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v5 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v38 : BitVec 32 := Scalar.subi c1_i32_20 v29
  let v39 : BitVec 32 := Scalar.addi v37 v38
  let c1024_i32_583 : BitVec 32 := 1024#32
  let v795 : BitVec 32 := Scalar.muli v39 c1024_i32_583
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_55 : BitVec 32 := 1#32
  let v84 : BitVec 32 := Scalar.addi v8 c1_i32_55
  let c4_i32_56 : BitVec 32 := 4#32
  let c0_i32_57 : BitVec 32 := 0#32
  let v85 : BitVec 1 := Scalar.cmpi .eq c4_i32_56 c0_i32_57
  let c1_i32_58 : BitVec 32 := 1#32
  let v86 : BitVec 32 := Scalar.select v85 c1_i32_58 c4_i32_56
  let v87 : BitVec 32 := Scalar.remsi v84 v86
  let c0_i32_60 : BitVec 32 := 0#32
  let v89 : BitVec 1 := Scalar.cmpi .slt v87 c0_i32_60
  let c0_i32_61 : BitVec 32 := 0#32
  let v90 : BitVec 1 := Scalar.cmpi .slt v86 c0_i32_61
  let v91 : BitVec 1 := Scalar.xori v89 v90
  let c0_i32_59 : BitVec 32 := 0#32
  let v88 : BitVec 1 := Scalar.cmpi .ne v87 c0_i32_59
  let v92 : BitVec 1 := Scalar.andi v91 v88
  let v93 : BitVec 32 := Scalar.addi v87 v86
  let v94 : BitVec 32 := Scalar.select v92 v93 v87
  let c256_i32_584 : BitVec 32 := 256#32
  let v796 : BitVec 32 := Scalar.muli v94 c256_i32_584
  let v797 : BitVec 32 := Scalar.addi v795 v796
  let c0_i32_585 : BitVec 32 := 0#32
  let v798 : BitVec 32 := Scalar.addi v797 c0_i32_585
  let c0_i32_592 : BitVec 32 := 0#32
  ![v798.toNat, 0]
def k0_dev24 (d0 : Dev nD) : Nat :=
  let c0_i32_589 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v30 : BitVec 32 := Scalar.subi c1_i32_14 v2
  let c16_i32_588 : BitVec 32 := 16#32
  let v799 : BitVec 32 := Scalar.muli v30 c16_i32_588
  let v800 : BitVec 32 := Scalar.addi c0_i32_589 v799
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_590 : BitVec 32 := 4#32
  let v801 : BitVec 32 := Scalar.muli v5 c4_i32_590
  let v802 : BitVec 32 := Scalar.addi v800 v801
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_591 : BitVec 32 := 1#32
  let v803 : BitVec 32 := Scalar.muli v8 c1_i32_591
  let v804 : BitVec 32 := Scalar.addi v802 v803
  v804.toNat
def k0_off6 (d0 : Dev nD) : Fin 2 → Nat :=
  let c2_i32_18 : BitVec 32 := 2#32
  let c1_i32_17 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v34 : BitVec 32 := Scalar.subi c1_i32_17 v2
  let v35 : BitVec 32 := Scalar.muli c2_i32_18 v34
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v5 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v36 : BitVec 32 := Scalar.addi v35 v29
  let c1024_i32_605 : BitVec 32 := 1024#32
  let v825 : BitVec 32 := Scalar.muli v36 c1024_i32_605
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_55 : BitVec 32 := 1#32
  let v84 : BitVec 32 := Scalar.addi v8 c1_i32_55
  let c4_i32_56 : BitVec 32 := 4#32
  let c0_i32_57 : BitVec 32 := 0#32
  let v85 : BitVec 1 := Scalar.cmpi .eq c4_i32_56 c0_i32_57
  let c1_i32_58 : BitVec 32 := 1#32
  let v86 : BitVec 32 := Scalar.select v85 c1_i32_58 c4_i32_56
  let v87 : BitVec 32 := Scalar.remsi v84 v86
  let c0_i32_60 : BitVec 32 := 0#32
  let v89 : BitVec 1 := Scalar.cmpi .slt v87 c0_i32_60
  let c0_i32_61 : BitVec 32 := 0#32
  let v90 : BitVec 1 := Scalar.cmpi .slt v86 c0_i32_61
  let v91 : BitVec 1 := Scalar.xori v89 v90
  let c0_i32_59 : BitVec 32 := 0#32
  let v88 : BitVec 1 := Scalar.cmpi .ne v87 c0_i32_59
  let v92 : BitVec 1 := Scalar.andi v91 v88
  let v93 : BitVec 32 := Scalar.addi v87 v86
  let v94 : BitVec 32 := Scalar.select v92 v93 v87
  let c256_i32_606 : BitVec 32 := 256#32
  let v826 : BitVec 32 := Scalar.muli v94 c256_i32_606
  let v827 : BitVec 32 := Scalar.addi v825 v826
  let c128_i32_607 : BitVec 32 := 128#32
  let v828 : BitVec 32 := Scalar.addi v827 c128_i32_607
  let c0_i32_614 : BitVec 32 := 0#32
  ![v828.toNat, 0]
def k0_dev25 (d0 : Dev nD) : Nat :=
  let c0_i32_611 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_610 : BitVec 32 := 16#32
  let v829 : BitVec 32 := Scalar.muli v2 c16_i32_610
  let v830 : BitVec 32 := Scalar.addi c0_i32_611 v829
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.xori v5 c1_i32_15
  let c4_i32_612 : BitVec 32 := 4#32
  let v831 : BitVec 32 := Scalar.muli v31 c4_i32_612
  let v832 : BitVec 32 := Scalar.addi v830 v831
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_613 : BitVec 32 := 1#32
  let v833 : BitVec 32 := Scalar.muli v8 c1_i32_613
  let v834 : BitVec 32 := Scalar.addi v832 v833
  v834.toNat
def k0_dev26 (d0 : Dev nD) : Nat :=
  let c0_i32_638 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v30 : BitVec 32 := Scalar.subi c1_i32_14 v2
  let c16_i32_637 : BitVec 32 := 16#32
  let v863 : BitVec 32 := Scalar.muli v30 c16_i32_637
  let v864 : BitVec 32 := Scalar.addi c0_i32_638 v863
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_639 : BitVec 32 := 4#32
  let v865 : BitVec 32 := Scalar.muli v5 c4_i32_639
  let v866 : BitVec 32 := Scalar.addi v864 v865
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_640 : BitVec 32 := 1#32
  let v867 : BitVec 32 := Scalar.muli v8 c1_i32_640
  let v868 : BitVec 32 := Scalar.addi v866 v867
  v868.toNat
def k0_dev27 (d0 : Dev nD) : Nat :=
  let c0_i32_652 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_651 : BitVec 32 := 16#32
  let v883 : BitVec 32 := Scalar.muli v2 c16_i32_651
  let v884 : BitVec 32 := Scalar.addi c0_i32_652 v883
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.xori v5 c1_i32_15
  let c4_i32_653 : BitVec 32 := 4#32
  let v885 : BitVec 32 := Scalar.muli v31 c4_i32_653
  let v886 : BitVec 32 := Scalar.addi v884 v885
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_654 : BitVec 32 := 1#32
  let v887 : BitVec 32 := Scalar.muli v8 c1_i32_654
  let v888 : BitVec 32 := Scalar.addi v886 v887
  v888.toNat
def k0_dev28 (d0 : Dev nD) : Nat :=
  let c0_i32_666 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_665 : BitVec 32 := 16#32
  let v903 : BitVec 32 := Scalar.muli v2 c16_i32_665
  let v904 : BitVec 32 := Scalar.addi c0_i32_666 v903
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_667 : BitVec 32 := 4#32
  let v905 : BitVec 32 := Scalar.muli v5 c4_i32_667
  let v906 : BitVec 32 := Scalar.addi v904 v905
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_668 : BitVec 32 := 1#32
  let v907 : BitVec 32 := Scalar.muli v19 c1_i32_668
  let v908 : BitVec 32 := Scalar.addi v906 v907
  v908.toNat
def k0_dev29 (d0 : Dev nD) : Nat :=
  let c0_i32_693 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v30 : BitVec 32 := Scalar.subi c1_i32_14 v2
  let c16_i32_692 : BitVec 32 := 16#32
  let v937 : BitVec 32 := Scalar.muli v30 c16_i32_692
  let v938 : BitVec 32 := Scalar.addi c0_i32_693 v937
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_694 : BitVec 32 := 4#32
  let v939 : BitVec 32 := Scalar.muli v5 c4_i32_694
  let v940 : BitVec 32 := Scalar.addi v938 v939
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_695 : BitVec 32 := 1#32
  let v941 : BitVec 32 := Scalar.muli v8 c1_i32_695
  let v942 : BitVec 32 := Scalar.addi v940 v941
  v942.toNat
def k0_dev30 (d0 : Dev nD) : Nat :=
  let c0_i32_707 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_706 : BitVec 32 := 16#32
  let v957 : BitVec 32 := Scalar.muli v2 c16_i32_706
  let v958 : BitVec 32 := Scalar.addi c0_i32_707 v957
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.xori v5 c1_i32_15
  let c4_i32_708 : BitVec 32 := 4#32
  let v959 : BitVec 32 := Scalar.muli v31 c4_i32_708
  let v960 : BitVec 32 := Scalar.addi v958 v959
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_709 : BitVec 32 := 1#32
  let v961 : BitVec 32 := Scalar.muli v8 c1_i32_709
  let v962 : BitVec 32 := Scalar.addi v960 v961
  v962.toNat
def k0_dev31 (d0 : Dev nD) : Nat :=
  let c0_i32_721 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_720 : BitVec 32 := 16#32
  let v977 : BitVec 32 := Scalar.muli v2 c16_i32_720
  let v978 : BitVec 32 := Scalar.addi c0_i32_721 v977
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_722 : BitVec 32 := 4#32
  let v979 : BitVec 32 := Scalar.muli v5 c4_i32_722
  let v980 : BitVec 32 := Scalar.addi v978 v979
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_723 : BitVec 32 := 1#32
  let v981 : BitVec 32 := Scalar.muli v19 c1_i32_723
  let v982 : BitVec 32 := Scalar.addi v980 v981
  v982.toNat
def k0_off7 (d0 : Dev nD) : Fin 2 → Nat :=
  let c2_i32_19 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v37 : BitVec 32 := Scalar.muli c2_i32_19 v2
  let c1_i32_20 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v5 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v38 : BitVec 32 := Scalar.subi c1_i32_20 v29
  let v39 : BitVec 32 := Scalar.addi v37 v38
  let c1024_i32_737 : BitVec 32 := 1024#32
  let v1003 : BitVec 32 := Scalar.muli v39 c1024_i32_737
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_738 : BitVec 32 := 256#32
  let v1004 : BitVec 32 := Scalar.muli v8 c256_i32_738
  let v1005 : BitVec 32 := Scalar.addi v1003 v1004
  let c0_i32_739 : BitVec 32 := 0#32
  let v1006 : BitVec 32 := Scalar.addi v1005 c0_i32_739
  let c0_i32_746 : BitVec 32 := 0#32
  ![v1006.toNat, 0]
def k0_dev32 (d0 : Dev nD) : Nat :=
  let c0_i32_743 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v30 : BitVec 32 := Scalar.subi c1_i32_14 v2
  let c16_i32_742 : BitVec 32 := 16#32
  let v1007 : BitVec 32 := Scalar.muli v30 c16_i32_742
  let v1008 : BitVec 32 := Scalar.addi c0_i32_743 v1007
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_744 : BitVec 32 := 4#32
  let v1009 : BitVec 32 := Scalar.muli v5 c4_i32_744
  let v1010 : BitVec 32 := Scalar.addi v1008 v1009
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_745 : BitVec 32 := 1#32
  let v1011 : BitVec 32 := Scalar.muli v8 c1_i32_745
  let v1012 : BitVec 32 := Scalar.addi v1010 v1011
  v1012.toNat
def k0_off8 (d0 : Dev nD) : Fin 2 → Nat :=
  let c2_i32_18 : BitVec 32 := 2#32
  let c1_i32_17 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v34 : BitVec 32 := Scalar.subi c1_i32_17 v2
  let v35 : BitVec 32 := Scalar.muli c2_i32_18 v34
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v5 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v36 : BitVec 32 := Scalar.addi v35 v29
  let c1024_i32_759 : BitVec 32 := 1024#32
  let v1033 : BitVec 32 := Scalar.muli v36 c1024_i32_759
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_760 : BitVec 32 := 256#32
  let v1034 : BitVec 32 := Scalar.muli v8 c256_i32_760
  let v1035 : BitVec 32 := Scalar.addi v1033 v1034
  let c128_i32_761 : BitVec 32 := 128#32
  let v1036 : BitVec 32 := Scalar.addi v1035 c128_i32_761
  let c0_i32_768 : BitVec 32 := 0#32
  ![v1036.toNat, 0]
def k0_dev33 (d0 : Dev nD) : Nat :=
  let c0_i32_765 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_764 : BitVec 32 := 16#32
  let v1037 : BitVec 32 := Scalar.muli v2 c16_i32_764
  let v1038 : BitVec 32 := Scalar.addi c0_i32_765 v1037
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.xori v5 c1_i32_15
  let c4_i32_766 : BitVec 32 := 4#32
  let v1039 : BitVec 32 := Scalar.muli v31 c4_i32_766
  let v1040 : BitVec 32 := Scalar.addi v1038 v1039
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_767 : BitVec 32 := 1#32
  let v1041 : BitVec 32 := Scalar.muli v8 c1_i32_767
  let v1042 : BitVec 32 := Scalar.addi v1040 v1041
  v1042.toNat
def k0_dev34 (d0 : Dev nD) : Nat :=
  let c0_i32_791 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v30 : BitVec 32 := Scalar.subi c1_i32_14 v2
  let c16_i32_790 : BitVec 32 := 16#32
  let v1071 : BitVec 32 := Scalar.muli v30 c16_i32_790
  let v1072 : BitVec 32 := Scalar.addi c0_i32_791 v1071
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_792 : BitVec 32 := 4#32
  let v1073 : BitVec 32 := Scalar.muli v5 c4_i32_792
  let v1074 : BitVec 32 := Scalar.addi v1072 v1073
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_793 : BitVec 32 := 1#32
  let v1075 : BitVec 32 := Scalar.muli v8 c1_i32_793
  let v1076 : BitVec 32 := Scalar.addi v1074 v1075
  v1076.toNat
def k0_dev35 (d0 : Dev nD) : Nat :=
  let c0_i32_805 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_804 : BitVec 32 := 16#32
  let v1091 : BitVec 32 := Scalar.muli v2 c16_i32_804
  let v1092 : BitVec 32 := Scalar.addi c0_i32_805 v1091
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.xori v5 c1_i32_15
  let c4_i32_806 : BitVec 32 := 4#32
  let v1093 : BitVec 32 := Scalar.muli v31 c4_i32_806
  let v1094 : BitVec 32 := Scalar.addi v1092 v1093
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_807 : BitVec 32 := 1#32
  let v1095 : BitVec 32 := Scalar.muli v8 c1_i32_807
  let v1096 : BitVec 32 := Scalar.addi v1094 v1095
  v1096.toNat
def k0_dev36 (d0 : Dev nD) : Nat :=
  let c0_i32_831 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v30 : BitVec 32 := Scalar.subi c1_i32_14 v2
  let c16_i32_830 : BitVec 32 := 16#32
  let v1125 : BitVec 32 := Scalar.muli v30 c16_i32_830
  let v1126 : BitVec 32 := Scalar.addi c0_i32_831 v1125
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_832 : BitVec 32 := 4#32
  let v1127 : BitVec 32 := Scalar.muli v5 c4_i32_832
  let v1128 : BitVec 32 := Scalar.addi v1126 v1127
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_833 : BitVec 32 := 1#32
  let v1129 : BitVec 32 := Scalar.muli v8 c1_i32_833
  let v1130 : BitVec 32 := Scalar.addi v1128 v1129
  v1130.toNat
def k0_dev37 (d0 : Dev nD) : Nat :=
  let c0_i32_845 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_844 : BitVec 32 := 16#32
  let v1145 : BitVec 32 := Scalar.muli v2 c16_i32_844
  let v1146 : BitVec 32 := Scalar.addi c0_i32_845 v1145
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.xori v5 c1_i32_15
  let c4_i32_846 : BitVec 32 := 4#32
  let v1147 : BitVec 32 := Scalar.muli v31 c4_i32_846
  let v1148 : BitVec 32 := Scalar.addi v1146 v1147
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_847 : BitVec 32 := 1#32
  let v1149 : BitVec 32 := Scalar.muli v8 c1_i32_847
  let v1150 : BitVec 32 := Scalar.addi v1148 v1149
  v1150.toNat
def k0_off9 (d0 : Dev nD) : Fin 2 → Nat :=
  let c2_i32_19 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v37 : BitVec 32 := Scalar.muli c2_i32_19 v2
  let c1_i32_20 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v5 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v38 : BitVec 32 := Scalar.subi c1_i32_20 v29
  let v39 : BitVec 32 := Scalar.addi v37 v38
  let c1024_i32_861 : BitVec 32 := 1024#32
  let v1171 : BitVec 32 := Scalar.muli v39 c1024_i32_861
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_62 : BitVec 32 := 1#32
  let v95 : BitVec 32 := Scalar.subi v8 c1_i32_62
  let c4_i32_63 : BitVec 32 := 4#32
  let c0_i32_64 : BitVec 32 := 0#32
  let v96 : BitVec 1 := Scalar.cmpi .eq c4_i32_63 c0_i32_64
  let c1_i32_65 : BitVec 32 := 1#32
  let v97 : BitVec 32 := Scalar.select v96 c1_i32_65 c4_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c256_i32_862 : BitVec 32 := 256#32
  let v1172 : BitVec 32 := Scalar.muli v105 c256_i32_862
  let v1173 : BitVec 32 := Scalar.addi v1171 v1172
  let c0_i32_863 : BitVec 32 := 0#32
  let v1174 : BitVec 32 := Scalar.addi v1173 c0_i32_863
  let c0_i32_870 : BitVec 32 := 0#32
  ![v1174.toNat, 0]
def k0_dev38 (d0 : Dev nD) : Nat :=
  let c0_i32_867 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v30 : BitVec 32 := Scalar.subi c1_i32_14 v2
  let c16_i32_866 : BitVec 32 := 16#32
  let v1175 : BitVec 32 := Scalar.muli v30 c16_i32_866
  let v1176 : BitVec 32 := Scalar.addi c0_i32_867 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_868 : BitVec 32 := 4#32
  let v1177 : BitVec 32 := Scalar.muli v5 c4_i32_868
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_869 : BitVec 32 := 1#32
  let v1179 : BitVec 32 := Scalar.muli v8 c1_i32_869
  let v1180 : BitVec 32 := Scalar.addi v1178 v1179
  v1180.toNat
def k0_off10 (d0 : Dev nD) : Fin 2 → Nat :=
  let c2_i32_18 : BitVec 32 := 2#32
  let c1_i32_17 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v34 : BitVec 32 := Scalar.subi c1_i32_17 v2
  let v35 : BitVec 32 := Scalar.muli c2_i32_18 v34
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v5 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v36 : BitVec 32 := Scalar.addi v35 v29
  let c1024_i32_883 : BitVec 32 := 1024#32
  let v1201 : BitVec 32 := Scalar.muli v36 c1024_i32_883
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_62 : BitVec 32 := 1#32
  let v95 : BitVec 32 := Scalar.subi v8 c1_i32_62
  let c4_i32_63 : BitVec 32 := 4#32
  let c0_i32_64 : BitVec 32 := 0#32
  let v96 : BitVec 1 := Scalar.cmpi .eq c4_i32_63 c0_i32_64
  let c1_i32_65 : BitVec 32 := 1#32
  let v97 : BitVec 32 := Scalar.select v96 c1_i32_65 c4_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c256_i32_884 : BitVec 32 := 256#32
  let v1202 : BitVec 32 := Scalar.muli v105 c256_i32_884
  let v1203 : BitVec 32 := Scalar.addi v1201 v1202
  let c128_i32_885 : BitVec 32 := 128#32
  let v1204 : BitVec 32 := Scalar.addi v1203 c128_i32_885
  let c0_i32_892 : BitVec 32 := 0#32
  ![v1204.toNat, 0]
def k0_dev39 (d0 : Dev nD) : Nat :=
  let c0_i32_889 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_888 : BitVec 32 := 16#32
  let v1205 : BitVec 32 := Scalar.muli v2 c16_i32_888
  let v1206 : BitVec 32 := Scalar.addi c0_i32_889 v1205
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.xori v5 c1_i32_15
  let c4_i32_890 : BitVec 32 := 4#32
  let v1207 : BitVec 32 := Scalar.muli v31 c4_i32_890
  let v1208 : BitVec 32 := Scalar.addi v1206 v1207
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_891 : BitVec 32 := 1#32
  let v1209 : BitVec 32 := Scalar.muli v8 c1_i32_891
  let v1210 : BitVec 32 := Scalar.addi v1208 v1209
  v1210.toNat
def k0_off11 (d0 : Dev nD) : Fin 2 → Nat :=
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v32 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v5 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v33 : BitVec 32 := Scalar.addi v32 v29
  let c1024_i32_897 : BitVec 32 := 1024#32
  let v1221 : BitVec 32 := Scalar.muli v33 c1024_i32_897
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_69 : BitVec 32 := 2#32
  let v106 : BitVec 32 := Scalar.subi v8 c2_i32_69
  let c4_i32_70 : BitVec 32 := 4#32
  let c0_i32_71 : BitVec 32 := 0#32
  let v107 : BitVec 1 := Scalar.cmpi .eq c4_i32_70 c0_i32_71
  let c1_i32_72 : BitVec 32 := 1#32
  let v108 : BitVec 32 := Scalar.select v107 c1_i32_72 c4_i32_70
  let v109 : BitVec 32 := Scalar.remsi v106 v108
  let c0_i32_74 : BitVec 32 := 0#32
  let v111 : BitVec 1 := Scalar.cmpi .slt v109 c0_i32_74
  let c0_i32_75 : BitVec 32 := 0#32
  let v112 : BitVec 1 := Scalar.cmpi .slt v108 c0_i32_75
  let v113 : BitVec 1 := Scalar.xori v111 v112
  let c0_i32_73 : BitVec 32 := 0#32
  let v110 : BitVec 1 := Scalar.cmpi .ne v109 c0_i32_73
  let v114 : BitVec 1 := Scalar.andi v113 v110
  let v115 : BitVec 32 := Scalar.addi v109 v108
  let v116 : BitVec 32 := Scalar.select v114 v115 v109
  let c256_i32_898 : BitVec 32 := 256#32
  let v1222 : BitVec 32 := Scalar.muli v116 c256_i32_898
  let v1223 : BitVec 32 := Scalar.addi v1221 v1222
  let c0_i32_899 : BitVec 32 := 0#32
  let v1224 : BitVec 32 := Scalar.addi v1223 c0_i32_899
  let c0_i32_906 : BitVec 32 := 0#32
  ![v1224.toNat, 0]
def k0_dev40 (d0 : Dev nD) : Nat :=
  let c0_i32_903 : BitVec 32 := 0#32
  let c1_i32_21 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v40 : BitVec 32 := Scalar.subi c1_i32_21 v2
  let c16_i32_902 : BitVec 32 := 16#32
  let v1225 : BitVec 32 := Scalar.muli v40 c16_i32_902
  let v1226 : BitVec 32 := Scalar.addi c0_i32_903 v1225
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_22 : BitVec 32 := 1#32
  let v41 : BitVec 32 := Scalar.xori v5 c1_i32_22
  let c4_i32_904 : BitVec 32 := 4#32
  let v1227 : BitVec 32 := Scalar.muli v41 c4_i32_904
  let v1228 : BitVec 32 := Scalar.addi v1226 v1227
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_905 : BitVec 32 := 1#32
  let v1229 : BitVec 32 := Scalar.muli v8 c1_i32_905
  let v1230 : BitVec 32 := Scalar.addi v1228 v1229
  v1230.toNat
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x1024 : Shape := ⟨2, ![16384, 1024]⟩
abbrev S4x4096x1024 : Shape := ⟨3, ![4, 4096, 1024]⟩
abbrev S_ : Shape := ⟨0, ![]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x4096x1024, .f32⟩
  | .hbm, ⟨2, _⟩ => ⟨S_, .f32⟩
  | .hbm, ⟨3, _⟩ => ⟨S4096x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.AllReduce.Table.lean ====
/-
# The kernel's protocol as a table

The all-reduce is a fixed list of operations, the same on every device: five signals, one barrier wait, thirty-five
remote copies with their waits, and six accumulations. This module names the transfers and the operations, writes the
list down, and says of each operation which pieces of memory, tokens and credits it takes and which it gives back.
`exec_prog` then checks, by evaluation, that the whole list can be run from what a device starts with, that it ends with
what the launch expects back, and that no wait is made while something of a level as low is still owed.

A device is `c = 16 x + 4 y + z`. A buffer of 4096 rows is cut into 32 bands of 128 rows; each device numbers them from
its own place: `q` is the quarter (0 its own, 1 its x-neighbour's, 2 its y-neighbour's, 3 the diagonal one's), `j` the
chunk (chunk `z + 1 - j`), `g` the half.
-/
module

public import Idealize.ShloMosaic.Lib.Pipeline

@[expose] public section

namespace Cert.AllReduce

open Idealize.ShloMosaic

/-! ## The mesh -/

/-- The devices of the 2 × 4 × 4 mesh. -/
abbrev D : Type := Dev 32

/-- The next device round the z ring. -/
def nxt (c : D) : D := ⟨c.val / 4 * 4 + (c.val % 4 + 1) % 4, by have := c.isLt; omega⟩
/-- The previous device round the z ring. -/
def prv (c : D) : D := ⟨c.val / 4 * 4 + (c.val % 4 + 3) % 4, by have := c.isLt; omega⟩
/-- The device across x. -/
def px (c : D) : D := ⟨(c.val + 16) % 32, by omega⟩
/-- The device with y's last bit flipped. -/
def py (c : D) : D := ⟨c.val / 8 * 8 + (c.val % 8 + 4) % 8, by have := c.isLt; omega⟩
/-- The diagonal device. -/
def pd (c : D) : D := px (py c)

theorem prv_nxt (c : D) : prv (nxt c) = c := by revert c; decide
theorem nxt_prv (c : D) : nxt (prv c) = c := by revert c; decide
theorem px_px (c : D) : px (px c) = c := by revert c; decide
theorem py_py (c : D) : py (py c) = c := by revert c; decide
theorem pd_pd (c : D) : pd (pd c) = c := by revert c; decide

/-- A device named from another's place. -/
inductive Rel | self | nxt | prv | prv2 | px | py | pd
  deriving DecidableEq

/-- The device so named. -/
def Rel.at (r : Rel) (c : D) : D :=
  match r with
  | .self => c
  | .nxt => AllReduce.nxt c
  | .prv => AllReduce.prv c
  | .prv2 => AllReduce.prv (AllReduce.prv c)
  | .px => AllReduce.px c
  | .py => AllReduce.py c
  | .pd => AllReduce.pd c

/-- The quarter that device `c` calls `q`. -/
def quarter (q : Fin 4) (c : D) : Fin 4 :=
  ⟨(2 * ((c.val / 16 + q.val % 2) % 2) + (c.val / 4 + q.val / 2) % 2) % 4, by omega⟩

/-- The chunk that device `c` calls `j`. -/
def chunk (j : Fin 4) (c : D) : Fin 4 := ⟨(c.val + 5 - j.val) % 4, by omega⟩

/-- The band that device `c` calls `(q, j, g)`. -/
def bnd (c : D) (q j : Fin 4) (g : Fin 2) : Fin 32 :=
  ⟨8 * (quarter q c).val + 2 * (chunk j c).val + g.val, by omega⟩

/-! ## Transfers and operations -/

/-- The remote copies: the reduce-scatter's, the all-gather's, the copies of finished bands to the x- and y-neighbours,
    the two neighbours' forwards to the diagonal, and the one direct copy to the diagonal. -/
inductive Tr
  | rs (s : Fin 3) (g : Fin 2) | ag (s : Fin 3) (g : Fin 2) | xq (j : Fin 4) (g : Fin 2) | yq (j : Fin 4) (g : Fin 2)
  | xf (j : Fin 3) | yf (j : Fin 3) | dq
  deriving DecidableEq

/-- The device a copy goes to, named from the sender's place. -/
def Tr.to : Tr → Rel
  | .rs _ _ => .nxt | .ag _ _ => .nxt | .xq _ _ => .px | .yq _ _ => .py | .xf _ => .px | .yf _ => .py | .dq => .pd

/-- The device a copy comes from, named from the receiver's place. -/
def Tr.from : Tr → Rel
  | .rs _ _ => .prv | .ag _ _ => .prv | .xq _ _ => .px | .yq _ _ => .py | .xf _ => .px | .yf _ => .py | .dq => .pd

/-- The number of the DMA semaphore a copy's source end signals. -/
def Tr.sNum : Tr → Fin 76
  | .rs s g => ⟨2 + (2 * s.val + g.val), by omega⟩ | .ag s g => ⟨14 + (2 * s.val + g.val), by omega⟩
  | .xq j g => ⟨26 + (2 * j.val + g.val), by omega⟩ | .yq j g => ⟨42 + (2 * j.val + g.val), by omega⟩
  | .xf j => ⟨58 + j.val, by omega⟩ | .yf j => ⟨66 + j.val, by omega⟩ | .dq => 74

/-- The number of the DMA semaphore a copy's far end signals. -/
def Tr.rNum : Tr → Fin 76
  | .rs s g => ⟨8 + (2 * s.val + g.val), by omega⟩ | .ag s g => ⟨20 + (2 * s.val + g.val), by omega⟩
  | .xq j g => ⟨34 + (2 * j.val + g.val), by omega⟩ | .yq j g => ⟨50 + (2 * j.val + g.val), by omega⟩
  | .xf j => ⟨62 + j.val, by omega⟩ | .yf j => ⟨70 + j.val, by omega⟩ | .dq => 75

/-- The bands a copy moves, in units of 128 rows. -/
def Tr.bands : Tr → Nat
  | .dq => 2
  | _ => 1

/-- The peer a signal goes to. -/
def peer : Fin 5 → Rel
  | 0 => .nxt | 1 => .prv | 2 => .px | 3 => .py | 4 => .pd

/-- The peer a signal comes from. -/
def peerFrom : Fin 5 → Rel
  | 0 => .prv | 1 => .nxt | 2 => .px | 3 => .py | 4 => .pd

/-- One operation of the kernel. -/
inductive Op
  | sig (k : Fin 5) | bar | send (i : Tr) | waitS (i : Tr) | waitR (i : Tr) | acc (s : Fin 3) (g : Fin 2)
  deriving DecidableEq

/-- Wait for a copy of one's own to be sent, then for the matching one to arrive. -/
def both (i : Tr) : List Op := [.waitS i, .waitR i]

/-- The kernel's operations in order. -/
def prog : List Op :=
  [.sig 0, .sig 1, .sig 2, .sig 3, .sig 4, .bar, .send (.rs 0 0), .send (.rs 0 1)]
  ++ both (.rs 0 0) ++ [.acc 0 0, .send (.rs 1 0)] ++ both (.rs 0 1) ++ [.acc 0 1, .send (.rs 1 1)]
  ++ both (.rs 1 0) ++ [.acc 1 0, .send (.rs 2 0)] ++ both (.rs 1 1) ++ [.acc 1 1, .send (.rs 2 1)]
  ++ both (.rs 2 0) ++ [.acc 2 0, .send (.xq 0 0), .send (.yq 0 0), .send (.ag 0 0)]
  ++ both (.rs 2 1) ++ [.acc 2 1, .send (.xq 0 1), .send (.yq 0 1), .send (.ag 0 1)]
  ++ both (.ag 0 0) ++ [.send (.xq 1 0), .send (.yq 1 0), .send (.ag 1 0)]
  ++ both (.ag 0 1) ++ [.send (.xq 1 1), .send (.yq 1 1), .send (.ag 1 1)]
  ++ [.waitR (.yq 0 0), .send (.xf 0), .waitR (.xq 0 1), .send (.yf 0)]
  ++ both (.ag 1 0) ++ [.send (.xq 2 0), .send (.yq 2 0), .send (.ag 2 0)]
  ++ both (.ag 1 1) ++ [.send (.xq 2 1), .send (.yq 2 1), .send (.ag 2 1)]
  ++ [.waitR (.yq 1 0), .send (.xf 1), .waitR (.xq 1 1), .send (.yf 1)]
  ++ both (.ag 2 0) ++ [.send (.xq 3 0), .send (.yq 3 0)]
  ++ both (.ag 2 1) ++ [.send (.xq 3 1), .send (.yq 3 1)]
  ++ [.waitR (.yq 2 0), .send (.xf 2), .waitR (.xq 2 1), .send (.yf 2), .send .dq]
  ++ both (.xq 0 0) ++ [.waitS (.xq 0 1), .waitS (.yq 0 0)] ++ both (.yq 0 1) ++ both (.xf 0) ++ both (.yf 0)
  ++ both (.xq 1 0) ++ [.waitS (.xq 1 1), .waitS (.yq 1 0)] ++ both (.yq 1 1) ++ both (.xf 1) ++ both (.yf 1)
  ++ both (.xq 2 0) ++ [.waitS (.xq 2 1), .waitS (.yq 2 0)] ++ both (.yq 2 1) ++ both (.xf 2) ++ both (.yf 2)
  ++ both (.xq 3 0) ++ both (.yq 3 0) ++ both (.xq 3 1) ++ both (.yq 3 1) ++ both .dq

/-! ## Pieces of memory, tokens and credits -/

/-- What a band of a result buffer holds: unknown contents, the partial sum of the reduce-scatter, the finished sum. -/
inductive St | any | acc | fin
  deriving DecidableEq

/-- How much of it is held: all of it, or one of three parts. -/
inductive Sh | full | s1 | s2 | s3
  deriving DecidableEq

/-- A piece of memory, named from a device's place: a band of its own input, a band of the result buffer of the device
    `r` (by that device's numbering), a slot of the landing buffer of the device `r`. -/
inductive Piece
  | x (q j : Fin 4) (g : Fin 2)
  | o (r : Rel) (q j : Fin 4) (g : Fin 2) (st : St) (sh : Sh)
  | cm (r : Rel) (k : Fin 6) (got : Bool)
  deriving DecidableEq

/-- What a device holds: pieces of memory; the right to signal (`tS`, `tR` for a copy's two ends, `tB` for a barrier
    signal); its place at a semaphore before (`aS`, `aR`, `aB`) and after (`zS`, `zR`, `zB`) the one wait on it; the
    credit to wait (`cS`, `cR`, `cB`). -/
inductive Res
  | p (p : Piece) | tS (i : Tr) | tR (i : Tr) | tB (k : Fin 5) | aS (i : Tr) | aR (i : Tr) | aB | zS (i : Tr)
  | zR (i : Tr) | zB | cS (i : Tr) | cR (i : Tr) | cB
  deriving DecidableEq

/-- The slot of the landing buffer for step `s`, half `g`. -/
def slot (s : Fin 3) (g : Fin 2) : Fin 6 := ⟨2 * s.val + g.val, by omega⟩

/-- The three parts of a finished band. -/
def thirds (r : Rel) (q j : Fin 4) (g : Fin 2) : List Piece := [.o r q j g .fin .s1, .o r q j g .fin .s2, .o r q j g .fin .s3]

/-- The chunk, by the device's numbering, that step `s` accumulates. -/
def accJ : Fin 3 → Fin 4
  | 0 => 2 | 1 => 3 | 2 => 0

/-- The chunk, by the device's numbering, that a step of either ring sends. -/
def rsJ : Fin 3 → Fin 4
  | 0 => 1 | 1 => 2 | 2 => 3
/-- The chunk, by the device's numbering, that a step of the gather sends. -/
def agJ : Fin 3 → Fin 4
  | 0 => 0 | 1 => 1 | 2 => 2

/-- What a copy reads, by the sender's names. -/
def src : Tr → List Piece
  | .rs 0 g => [.x 0 1 g]
  | .rs s g => [.o .self 0 (rsJ s) g .acc .full]
  | .ag s g => [.o .self 0 (agJ s) g .fin .s1]
  | .xq j g => [.o .self 0 j g .fin .s2]
  | .yq j g => [.o .self 0 j g .fin .s3]
  | .xf j => [.o .self 2 j.castSucc 0 .fin .full]
  | .yf j => [.o .self 1 j.castSucc 1 .fin .full]
  | .dq => [.o .self 0 3 0 .fin .s1, .o .self 0 3 1 .fin .s1]

/-- What a copy overwrites, by the sender's names. -/
def dst : Tr → List Piece
  | .rs s g => [.cm .nxt (slot s g) false]
  | .ag 0 g => [.o .nxt 0 1 g .any .full]
  | .ag 1 g => [.o .nxt 0 2 g .acc .full]
  | .ag 2 g => [.o .nxt 0 3 g .acc .full]
  | .xq j g => [.o .px 1 j g .any .full]
  | .yq j g => [.o .py 2 j g .any .full]
  | .xf j => [.o .px 3 j.castSucc 0 .any .full]
  | .yf j => [.o .py 3 j.castSucc 1 .any .full]
  | .dq => [.o .pd 3 3 0 .any .full, .o .pd 3 3 1 .any .full]

/-- What goes along with a copy unchanged, by the sender's names. -/
def extra : Tr → List Piece
  | .rs 2 g => [.o .prv 0 2 g .acc .full]
  | .ag 0 g => [.o .prv 0 3 g .acc .full, .o .prv2 0 2 g .acc .full]
  | .ag 1 g => [.o .prv2 0 3 g .acc .full]
  | _ => []

/-- What comes back when the copy has been sent. -/
def back : Tr → List Piece
  | .rs 0 g => [.x 0 1 g]
  | .rs _ _ => []
  | i => src i

/-- What arrives with a copy, by the receiver's names. -/
def arr : Tr → List Piece
  | .rs 0 g => [.cm .self (slot 0 g) true]
  | .rs 1 g => [.cm .self (slot 1 g) true, .o .prv 0 2 g .acc .full]
  | .rs 2 g => [.cm .self (slot 2 g) true, .o .prv 0 3 g .acc .full, .o .prv2 0 2 g .acc .full]
  | .ag 0 g => thirds .self 0 1 g ++ [.o .prv2 0 3 g .acc .full, .o .nxt 0 2 g .acc .full]
  | .ag 1 g => thirds .self 0 2 g ++ [.o .nxt 0 3 g .acc .full]
  | .ag 2 g => thirds .self 0 3 g
  | .xq j g => [.o .self 1 j g .fin .full]
  | .yq j g => [.o .self 2 j g .fin .full]
  | .xf j => [.o .self 3 j.castSucc 0 .fin .full]
  | .yf j => [.o .self 3 j.castSucc 1 .fin .full]
  | .dq => [.o .self 3 3 0 .fin .full, .o .self 3 3 1 .fin .full]

/-- All chunks and halves of a quarter of the result buffer of `r`, contents unknown. -/
def anyQuarter (r : Rel) (q : Fin 4) : List Piece :=
  [.o r q 0 0 .any .full, .o r q 0 1 .any .full, .o r q 1 0 .any .full, .o r q 1 1 .any .full,
   .o r q 2 0 .any .full, .o r q 2 1 .any .full, .o r q 3 0 .any .full, .o r q 3 1 .any .full]

/-- What a barrier signal hands over: signal `k`'s, with `r` the name of the device that gives it. -/
def handed (k : Fin 5) (r : Rel) : List Piece :=
  match k with
  | 0 => []
  | 1 => [.cm r 0 false, .cm r 1 false, .cm r 2 false, .cm r 3 false, .cm r 4 false, .cm r 5 false,
          .o r 0 1 0 .any .full, .o r 0 1 1 .any .full]
  | 2 => anyQuarter r 1 ++ [.o r 3 0 0 .any .full, .o r 3 1 0 .any .full, .o r 3 2 0 .any .full]
  | 3 => anyQuarter r 2 ++ [.o r 3 0 1 .any .full, .o r 3 1 1 .any .full, .o r 3 2 1 .any .full]
  | 4 => [.o r 3 3 0 .any .full, .o r 3 3 1 .any .full]

/-- The pieces of step `s`'s accumulation: before, … -/
def accPre (s : Fin 3) (g : Fin 2) : List Piece :=
  [.x 0 (accJ s) g, .cm .self (slot s g) true, .o .self 0 (accJ s) g .any .full]
/-- … and after it. -/
def accPost (s : Fin 3) (g : Fin 2) : List Piece :=
  [.x 0 (accJ s) g, .cm .self (slot s g) true]
    ++ (match s with | 2 => thirds .self 0 0 g | _ => [.o .self 0 (accJ s) g .acc .full])

/-- What an operation takes. -/
def Op.pre : Op → List Res
  | .sig k => .tB k :: (handed k .self).map .p
  | .bar => [.aB, .cB]
  | .send i => .tS i :: .tR i :: (src i ++ dst i ++ extra i).map .p
  | .waitS i => [.aS i, .cS i]
  | .waitR i => [.aR i, .cR i]
  | .acc s g => (accPre s g).map .p

/-- The pieces the barrier wait gives. -/
def barGives : List Piece :=
  handed 0 .prv ++ handed 1 .nxt ++ handed 2 .px ++ handed 3 .py ++ handed 4 .pd

/-- What an operation gives back. -/
def Op.post : Op → List Res
  | .sig _ => []
  | .bar => .zB :: barGives.map .p
  | .send i => [.cS i]
  | .waitS i => .zS i :: (back i).map .p
  | .waitR i => .zR i :: (arr i).map .p
  | .acc s g => (accPost s g).map .p

/-- The level of the semaphore a copy's far end signals. -/
def Tr.lev : Tr → Nat
  | .rs s _ => 2 + s.val
  | .ag s _ => 5 + 2 * s.val
  | .xq j _ => 5 + 2 * j.val
  | .yq j _ => 5 + 2 * j.val
  | .xf j => 6 + 2 * j.val
  | .yf j => 6 + 2 * j.val
  | .dq => 12

/-- The level of what an operation of the list owes others, if it owes anything. -/
def Op.owes : Op → Option Nat
  | .sig _ => some 1
  | .send i => some i.lev
  | _ => none

/-- The level an operation waits at. -/
def Op.waits : Op → Option Nat
  | .bar => some 1
  | .waitS _ => some 1
  | .waitR i => some i.lev
  | _ => none

/-- The wait is below everything still owed. -/
def waitOk (o : Op) (rest : List Op) : Bool :=
  match o.waits with
  | none => true
  | some n => rest.all fun o' => match o'.owes with | none => true | some k => Nat.blt n k

/-! ## Running the table -/

/-- Take one thing out of a list. -/
def take1 (r : Res) : List Res → Option (List Res)
  | [] => none
  | a :: l => if r = a then some l else (take1 r l).map (a :: ·)

/-- Take a list of things out of a list. -/
def takeAll : List Res → List Res → Option (List Res)
  | [], S => some S
  | r :: rs, S => (take1 r S).bind (takeAll rs)

/-- Run the operations from the holding `S`. -/
def exec : List Op → List Res → Option (List Res)
  | [], S => some S
  | o :: rest, S => if waitOk o rest then (takeAll o.pre S).bind fun S' => exec rest (o.post ++ S') else none

/-- All transfers. -/
def allTr : List Tr :=
  [.rs 0 0, .rs 0 1, .rs 1 0, .rs 1 1, .rs 2 0, .rs 2 1, .ag 0 0, .ag 0 1, .ag 1 0, .ag 1 1, .ag 2 0, .ag 2 1,
   .xq 0 0, .xq 0 1, .xq 1 0, .xq 1 1, .xq 2 0, .xq 2 1, .xq 3 0, .xq 3 1,
   .yq 0 0, .yq 0 1, .yq 1 0, .yq 1 1, .yq 2 0, .yq 2 1, .yq 3 0, .yq 3 1, .xf 0, .xf 1, .xf 2, .yf 0, .yf 1, .yf 2, .dq]

theorem mem_allTr (i : Tr) : i ∈ allTr := by
  cases i with
  | rs s g => revert s g; decide
  | ag s g => revert s g; decide
  | xq j g => revert j g; decide
  | yq j g => revert j g; decide
  | xf j => revert j; decide
  | yf j => revert j; decide
  | dq => decide

/-- The thirty-two names of bands. -/
def names : List (Fin 4 × Fin 4 × Fin 2) :=
  [(0, 0, 0), (0, 0, 1), (0, 1, 0), (0, 1, 1), (0, 2, 0), (0, 2, 1), (0, 3, 0), (0, 3, 1),
   (1, 0, 0), (1, 0, 1), (1, 1, 0), (1, 1, 1), (1, 2, 0), (1, 2, 1), (1, 3, 0), (1, 3, 1),
   (2, 0, 0), (2, 0, 1), (2, 1, 0), (2, 1, 1), (2, 2, 0), (2, 2, 1), (2, 3, 0), (2, 3, 1),
   (3, 0, 0), (3, 0, 1), (3, 1, 0), (3, 1, 1), (3, 2, 0), (3, 2, 1), (3, 3, 0), (3, 3, 1)]

/-- The bands of the input. -/
def xAll : List Piece := names.map fun n => .x n.1 n.2.1 n.2.2
/-- The bands of the result buffer, contents unknown. -/
def oAny : List Piece := names.map fun n => .o .self n.1 n.2.1 n.2.2 .any .full
/-- The bands of the result buffer, finished: those of the own quarter in three parts. -/
def oFin : List Piece :=
  names.flatMap fun n => if n.1 = 0 then thirds .self n.1 n.2.1 n.2.2 else [.o .self n.1 n.2.1 n.2.2 .fin .full]
/-- The slots of the landing buffer. -/
def cmAll (got : Bool) : List Piece :=
  [.cm .self 0 got, .cm .self 1 got, .cm .self 2 got, .cm .self 3 got, .cm .self 4 got, .cm .self 5 got]

/-- What a device starts with. -/
def start : List Res :=
  (.aB :: allTr.map .aS ++ allTr.map .aR) ++ (allTr.map .tS ++ allTr.map .tR ++ [.tB 0, .tB 1, .tB 2, .tB 3, .tB 4])
    ++ (.cB :: allTr.map .cR) ++ (xAll ++ oAny ++ cmAll false).map .p

/-- What a device ends with. -/
def finish : List Res :=
  (.zB :: allTr.map .zS ++ allTr.map .zR) ++ (xAll ++ oFin ++ cmAll true).map .p

/-- Run the whole list and hand in what is expected at the end. -/
def runAll : Option (List Res) := (exec prog start).bind (takeAll finish)

/-- The list runs from `start` and ends with `finish`, exactly. -/
theorem runAll_eq : runAll = some [] := by decide +kernel

end Cert.AllReduce

end
-- ==== Proof.AllReduce.Cells.lean ====
/-
# Facts about the table by evaluation

Which transfer a DMA semaphore belongs to, that the neighbours undo one another, which bands of two neighbouring devices
are the same, and whose finished sum a band holds.
-/
module

public import proofs.«01_k».proof.Proof.AllReduce.Table

@[expose] public section

namespace Cert.AllReduce

open Idealize.ShloMosaic

/-! ## Semaphores -/

/-- The end of a copy a DMA semaphore belongs to: `false` its source, `true` its far end. -/
def info (n : Fin 76) : Option (Bool × Tr) :=
  match allTr.find? fun i => i.sNum = n with
  | some i => some (false, i)
  | none => (allTr.find? fun i => i.rNum = n).map fun i => (true, i)

theorem info_s (i : Tr) : info i.sNum = some (false, i) := by
  have h : ∀ i ∈ allTr, info i.sNum = some (false, i) := by decide +kernel
  exact h i (mem_allTr i)
theorem info_r (i : Tr) : info i.rNum = some (true, i) := by
  have h : ∀ i ∈ allTr, info i.rNum = some (true, i) := by decide +kernel
  exact h i (mem_allTr i)
theorem sNum_ge (i : Tr) : 2 ≤ i.sNum.val := by
  have h : ∀ i ∈ allTr, 2 ≤ i.sNum.val := by decide +kernel
  exact h i (mem_allTr i)
theorem rNum_ge (i : Tr) : 2 ≤ i.rNum.val := by
  have h : ∀ i ∈ allTr, 2 ≤ i.rNum.val := by decide +kernel
  exact h i (mem_allTr i)

/-! ## Neighbours -/

theorem from_to (i : Tr) (c : D) : i.from.at (i.to.at c) = c := by
  have h : ∀ i ∈ allTr, ∀ c, i.from.at (i.to.at c) = c := by decide +kernel
  exact h i (mem_allTr i) c
theorem to_from (i : Tr) (c : D) : i.to.at (i.from.at c) = c := by
  have h : ∀ i ∈ allTr, ∀ c, i.to.at (i.from.at c) = c := by decide +kernel
  exact h i (mem_allTr i) c
theorem peerFrom_peer (k : Fin 5) (c : D) : (peerFrom k).at ((peer k).at c) = c := by revert k c; decide +kernel
theorem peer_peerFrom (k : Fin 5) (c : D) : (peer k).at ((peerFrom k).at c) = c := by revert k c; decide +kernel

/-! ## Bands -/

theorem bnd_inj (c : D) : Function.Injective fun n : Fin 4 × Fin 4 × Fin 2 => bnd c n.1 n.2.1 n.2.2 := by
  revert c; decide +kernel
theorem bnd_surj (c : D) (b : Fin 32) : ∃ n : Fin 4 × Fin 4 × Fin 2, bnd c n.1 n.2.1 n.2.2 = b := by
  revert c b; decide +kernel
theorem names_nodup : names.Nodup := by decide
theorem names_univ : names.toFinset = Finset.univ := by decide

/-- What the next device accumulates in step `s` is what this one sends. -/
theorem bnd_nxt_acc (c : D) (s : Fin 3) (g : Fin 2) : bnd (nxt c) 0 (accJ s) g = bnd c 0 (rsJ s) g := by
  revert c s g; decide +kernel
theorem bnd_nxt (c : D) (s : Fin 3) (g : Fin 2) : bnd (nxt c) 0 (rsJ s) g = bnd c 0 (agJ s) g := by
  revert c s g; decide +kernel
theorem bnd_px (c : D) (j : Fin 4) (g : Fin 2) : bnd (px c) 1 j g = bnd c 0 j g := by revert c j g; decide +kernel
theorem bnd_py (c : D) (j : Fin 4) (g : Fin 2) : bnd (py c) 2 j g = bnd c 0 j g := by revert c j g; decide +kernel
theorem bnd_px3 (c : D) (j : Fin 4) (g : Fin 2) : bnd (px c) 3 j g = bnd c 2 j g := by revert c j g; decide +kernel
theorem bnd_py3 (c : D) (j : Fin 4) (g : Fin 2) : bnd (py c) 3 j g = bnd c 1 j g := by revert c j g; decide +kernel
theorem bnd_pd3 (c : D) (j : Fin 4) (g : Fin 2) : bnd (pd c) 3 j g = bnd c 0 j g := by revert c j g; decide +kernel

/-! ## Which sum a band holds -/

/-- How many devices' rows the partial sum of device `c` holds in band `b`, less one. -/
def deep (c : D) (b : Fin 32) : Nat := (c.val + 4 - b.val % 8 / 2) % 4
/-- The device that finishes band `b`, among those that share with `c`. -/
def owner (c : D) (b : Fin 32) : D :=
  ⟨16 * (b.val / 8 / 2) + 8 * (c.val / 8 % 2) + 4 * (b.val / 8 % 2) + (b.val % 8 / 2 + 3) % 4, by omega⟩

theorem deep_rs (c : D) (s : Fin 3) (g : Fin 2) : deep c (bnd c 0 (rsJ s) g) = s.val := by revert c s g; decide +kernel
theorem deep_acc (c : D) (s : Fin 3) (g : Fin 2) : deep c (bnd c 0 (accJ s) g) = s.val + 1 := by revert c s g; decide +kernel
theorem owner_own (c : D) (g : Fin 2) : owner c (bnd c 0 0 g) = c := by revert c g; decide +kernel
theorem owner_at (r : Rel) (c : D) (b : Fin 32) : owner (r.at c) b = owner c b := by
  have h : (r.at c).val / 8 % 2 = c.val / 8 % 2 := by cases r <;> revert c <;> decide +kernel
  unfold owner; simp only [h]

end Cert.AllReduce

end
-- ==== Proof.RunIdeal.Ops.lean ====
/-
# The kernel as a list of operations

Each operation of the table (`AllReduce.Op`) is given its program text here, over the kernel's own memrefs, offsets and
device numbers; `body_eq` says that the kernel's body is the device's number followed by the table's list.
-/
module

public import proofs.«01_k».proof.Proof.AllReduce.Table
public import proofs.«01_k».proof.Proof.Gen.KernelIdeal
public import Idealize.ShloMosaic.Lib.Tactic

@[expose] public section

noncomputable section

namespace Cert.KernelIdeal.Run

open Cert.KernelIdeal Cert.KernelIdeal.Gen Cert.AllReduce
open Idealize.ShloMosaic Idealize.SL.Sem
open Idealize.ShloMosaic.TcCoe

variable {F : FTy → Type} [FloatOps F]

/-! ## Memrefs -/

abbrev xM : Memref sig .tc .vmem S4096x1024 .f32 := Memref.whole cc0_stg0_0
abbrev oM : Memref sig .tc .vmem S4096x1024 .f32 := Memref.whole cc0_stg1_0
abbrev cM : Memref sig .tc .vmem S6x128x1024 .f32 := Memref.whole cc0_scratch0

/-- The runtime's barrier semaphore. -/
abbrev barS : Sem sig := (SemArray.scalar (sig.barrier 0 rfl) : Sems sig S_).sem

/-- 128 rows of a 4096-row buffer. -/
abbrev rows (M : Memref sig .tc .vmem S4096x1024 .f32) (off : Fin 2 → Nat)
    (h : ∀ a, off a + S128x1024.size a ≤ S4096x1024.size a) : Memref sig .tc .vmem S128x1024 .f32 :=
  M.slice (Rect.unit (s := S4096x1024) off S128x1024.size h) (fun _ => rfl)

theorem slot_inb (k : Fin 6) : ∀ a, (![k.val, 0, 0] : Fin 3 → Nat) a + S1x128x1024.size a ≤ S6x128x1024.size a := by
  revert k; decide

/-- Slot `k` of the landing buffer. -/
abbrev cmSlot (k : Fin 6) : Memref sig .tc .vmem S128x1024 .f32 :=
  (cM.slice (Rect.unit (s := S6x128x1024) ![k.val, 0, 0] S1x128x1024.size (slot_inb k)) (fun _ => rfl)).squeeze
    S128x1024 squeezes_S1x128x1024_S128x1024

/-- The offsets that step `s` of the reduce-scatter sends from. -/
abbrev rsOff (c : Dev nD) (s : Fin 3) (g : Fin 2) : Fin 2 → Nat :=
  k0_off1 c (BitVec.ofNat 32 s.val) (BitVec.ofNat 32 (128 * g.val))

/-- The buffer that step `s` of the reduce-scatter sends from: the input first, then the result buffer. -/
def rsBuf : Fin 3 → Memref sig .tc .vmem S4096x1024 .f32
  | 0 => xM | _ => oM

/-- The offsets of the finished band `(j, g)` of the device's own quarter. -/
def pubOff (c : Dev nD) (j : Fin 4) (g : Fin 2) : Fin 2 → Nat :=
  match j with
  | 0 => k0_off3 c (BitVec.ofNat 32 (128 * g.val))
  | 1 => k0_off4 c (BitVec.ofNat 32 (128 * g.val))
  | 2 => k0_off1 c 1#32 (BitVec.ofNat 32 (128 * g.val))
  | 3 => k0_off1 c 2#32 (BitVec.ofNat 32 (128 * g.val))

theorem pubOff_inb (c : Dev nD) (j : Fin 4) (g : Fin 2) : ∀ a, pubOff c j g a + S128x1024.size a ≤ S4096x1024.size a :=
  match j with
  | 0 => k0_off3_inb c g
  | 1 => k0_off4_inb c g
  | 2 => k0_off1_inb c 1 g
  | 3 => k0_off1_inb c 2 g

/-- The offsets of the band forwarded across x. -/
def xfOff (c : Dev nD) : Fin 3 → Fin 2 → Nat
  | 0 => k0_off5 c | 1 => k0_off7 c | 2 => k0_off9 c
theorem xfOff_inb (c : Dev nD) (j : Fin 3) : ∀ a, xfOff c j a + S128x1024.size a ≤ S4096x1024.size a :=
  match j with
  | 0 => k0_off5_inb c | 1 => k0_off7_inb c | 2 => k0_off9_inb c

/-- The offsets of the band forwarded across y. -/
def yfOff (c : Dev nD) : Fin 3 → Fin 2 → Nat
  | 0 => k0_off6 c | 1 => k0_off8 c | 2 => k0_off10 c
theorem yfOff_inb (c : Dev nD) (j : Fin 3) : ∀ a, yfOff c j a + S128x1024.size a ≤ S4096x1024.size a :=
  match j with
  | 0 => k0_off6_inb c | 1 => k0_off8_inb c | 2 => k0_off10_inb c

/-- The finished band `(j, g)` of the own quarter. -/
abbrev pubM (c : Dev nD) (j : Fin 4) (g : Fin 2) := rows oM (pubOff c j g) (pubOff_inb c j g)
/-- The band forwarded across x, … -/
abbrev xfM (c : Dev nD) (j : Fin 3) := rows oM (xfOff c j) (xfOff_inb c j)
/-- … across y, … -/
abbrev yfM (c : Dev nD) (j : Fin 3) := rows oM (yfOff c j) (yfOff_inb c j)
/-- … and the chunk sent to the diagonal device. -/
abbrev dqM (c : Dev nD) : Memref sig .tc .vmem S256x1024 .f32 :=
  oM.slice (Rect.unit (s := S4096x1024) (k0_off11 c) S256x1024.size (k0_off11_inb c)) (fun _ => rfl)
/-- What a reduce-scatter step sends. -/
abbrev rsM (c : Dev nD) (s : Fin 3) (g : Fin 2) := rows (rsBuf s) (rsOff c s g) (k0_off1_inb c s g)

/-! ## Devices, as the kernel computes them -/

/-- The device a signal names. -/
def sigDev (c : Dev nD) : Fin 5 → Dev nD
  | 0 => ⟨k0_dev1 c, k0_dev1_lt c⟩ | 1 => ⟨k0_dev2 c, k0_dev2_lt c⟩ | 2 => ⟨k0_dev3 c, k0_dev3_lt c⟩
  | 3 => ⟨k0_dev4 c, k0_dev4_lt c⟩ | 4 => ⟨k0_dev5 c, k0_dev5_lt c⟩

/-- The device a copy names. -/
def trDev (c : Dev nD) : Tr → Dev nD
  | .rs 0 0 => ⟨k0_dev6 c, k0_dev6_lt c⟩ | .rs 0 1 => ⟨k0_dev7 c, k0_dev7_lt c⟩
  | .rs 1 0 => ⟨k0_dev8 c, k0_dev8_lt c⟩ | .rs 1 1 => ⟨k0_dev9 c, k0_dev9_lt c⟩
  | .rs 2 0 => ⟨k0_dev10 c, k0_dev10_lt c⟩ | .rs 2 1 => ⟨k0_dev11 c, k0_dev11_lt c⟩
  | .xq 0 0 => ⟨k0_dev12 c, k0_dev12_lt c⟩ | .yq 0 0 => ⟨k0_dev13 c, k0_dev13_lt c⟩
  | .ag 0 0 => ⟨k0_dev14 c, k0_dev14_lt c⟩
  | .xq 0 1 => ⟨k0_dev15 c, k0_dev15_lt c⟩ | .yq 0 1 => ⟨k0_dev16 c, k0_dev16_lt c⟩
  | .ag 0 1 => ⟨k0_dev17 c, k0_dev17_lt c⟩
  | .xq 1 0 => ⟨k0_dev18 c, k0_dev18_lt c⟩ | .yq 1 0 => ⟨k0_dev19 c, k0_dev19_lt c⟩
  | .ag 1 0 => ⟨k0_dev20 c, k0_dev20_lt c⟩
  | .xq 1 1 => ⟨k0_dev21 c, k0_dev21_lt c⟩ | .yq 1 1 => ⟨k0_dev22 c, k0_dev22_lt c⟩
  | .ag 1 1 => ⟨k0_dev23 c, k0_dev23_lt c⟩
  | .xf 0 => ⟨k0_dev24 c, k0_dev24_lt c⟩ | .yf 0 => ⟨k0_dev25 c, k0_dev25_lt c⟩
  | .xq 2 0 => ⟨k0_dev26 c, k0_dev26_lt c⟩ | .yq 2 0 => ⟨k0_dev27 c, k0_dev27_lt c⟩
  | .ag 2 0 => ⟨k0_dev28 c, k0_dev28_lt c⟩
  | .xq 2 1 => ⟨k0_dev29 c, k0_dev29_lt c⟩ | .yq 2 1 => ⟨k0_dev30 c, k0_dev30_lt c⟩
  | .ag 2 1 => ⟨k0_dev31 c, k0_dev31_lt c⟩
  | .xf 1 => ⟨k0_dev32 c, k0_dev32_lt c⟩ | .yf 1 => ⟨k0_dev33 c, k0_dev33_lt c⟩
  | .xq 3 0 => ⟨k0_dev34 c, k0_dev34_lt c⟩ | .yq 3 0 => ⟨k0_dev35 c, k0_dev35_lt c⟩
  | .xq 3 1 => ⟨k0_dev36 c, k0_dev36_lt c⟩ | .yq 3 1 => ⟨k0_dev37 c, k0_dev37_lt c⟩
  | .xf 2 => ⟨k0_dev38 c, k0_dev38_lt c⟩ | .yf 2 => ⟨k0_dev39 c, k0_dev39_lt c⟩
  | .dq => ⟨k0_dev40 c, k0_dev40_lt c⟩

/-! ## Operations -/

/-- The kernel's programs over its own effects. -/
abbrev P (F : FTy → Type) [FloatOps F] (α : Type) := Prog (TpuEff nD τ sig (Elt F) Λ₀ .tc) α

/-- Start a copy within the result buffers. -/
def sendO {s : Shape} (d : Dev nD) (M : Memref sig .tc .vmem s .f32) (a b : DmaSem sig) : P F PUnit :=
  Prog.lift (.enqueueDma M (.remote (Dev.tc d) M (.dma a)) (.dma b) (View.wordExact_bits rfl) (View.wordExact_bits rfl)
    ⟨⟨rfl, Or.inl rfl⟩, trivial⟩)

/-- Start a copy into a slot of the landing buffer. -/
def sendC (d : Dev nD) (M : Memref sig .tc .vmem S128x1024 .f32) (k : Fin 6) (a b : DmaSem sig) : P F PUnit :=
  Prog.lift (.enqueueDma M (.remote (Dev.tc d) (cmSlot k) (.dma a)) (.dma b) (View.wordExact_bits rfl)
    ((View.wordExact_bits rfl).reshape _ _) ⟨⟨rfl, Or.inl rfl⟩, trivial⟩)

/-- Wait on `a` for the amount of a copy from `M` to `M'`. -/
def waitO {s : Shape} (a : DmaSem sig) (M M' : Memref sig .tc .vmem s .f32) : P F PUnit :=
  Prog.lift (.waitDma2 a M M' (View.wordExact_bits rfl) (View.wordExact_bits rfl))

/-- Start the copy `i`. -/
def sendRun (c : Dev nD) : Tr → P F PUnit
  | .rs s g => sendC (trDev c (.rs s g)) (rsM c s g) (slot s g) (Tr.rs s g).sNum (Tr.rs s g).rNum
  | .ag s g => sendO (trDev c (.ag s g)) (pubM c (agJ s) g) (Tr.ag s g).sNum (Tr.ag s g).rNum
  | .xq j g => sendO (trDev c (.xq j g)) (pubM c j g) (Tr.xq j g).sNum (Tr.xq j g).rNum
  | .yq j g => sendO (trDev c (.yq j g)) (pubM c j g) (Tr.yq j g).sNum (Tr.yq j g).rNum
  | .xf j => sendO (trDev c (.xf j)) (xfM c j) (Tr.xf j).sNum (Tr.xf j).rNum
  | .yf j => sendO (trDev c (.yf j)) (yfM c j) (Tr.yf j).sNum (Tr.yf j).rNum
  | .dq => sendO (trDev c .dq) (dqM c) Tr.dq.sNum Tr.dq.rNum

/-- Wait until the copy `i` has been sent. -/
def waitSRun (c : Dev nD) : Tr → P F PUnit
  | .rs s g => Prog.lift (.waitDma2 (Tr.rs s g).sNum (cmSlot (slot s g)) (rsM c s g) ((View.wordExact_bits rfl).reshape _ _) (View.wordExact_bits rfl))
  | .ag s g => waitO (Tr.ag s g).sNum (pubM c (agJ s) g) (pubM c (agJ s) g)
  | .xq j g => waitO (Tr.xq j g).sNum (pubM c j g) (pubM c j g)
  | .yq j g => waitO (Tr.yq j g).sNum (pubM c j g) (pubM c j g)
  | .xf j => waitO (Tr.xf j).sNum (xfM c j) (xfM c j)
  | .yf j => waitO (Tr.yf j).sNum (yfM c j) (yfM c j)
  | .dq => waitO Tr.dq.sNum (dqM c) (dqM c)

/-- Wait until the matching copy has arrived. -/
def waitRRun (c : Dev nD) : Tr → P F PUnit
  | .rs s g => Prog.lift (.waitDma2 (Tr.rs s g).rNum (rsM c s g) (cmSlot (slot s g)) (View.wordExact_bits rfl) ((View.wordExact_bits rfl).reshape _ _))
  | .ag s g => waitO (Tr.ag s g).rNum (pubM c (agJ s) g) (pubM c (agJ s) g)
  | .xq j g => waitO (Tr.xq j g).rNum (pubM c j g) (pubM c j g)
  | .yq j g => waitO (Tr.yq j g).rNum (pubM c j g) (pubM c j g)
  | .xf j => waitO (Tr.xf j).rNum (xfM c j) (xfM c j)
  | .yf j => waitO (Tr.yf j).rNum (yfM c j) (yfM c j)
  | .dq => waitO Tr.dq.rNum (dqM c) (dqM c)

/-- The rows that step `s` accumulates. -/
abbrev accRect (c : Dev nD) (s : Fin 3) (g : Fin 2) : Rect S4096x1024 :=
  Rect.unit (s := S4096x1024) (k0_off2 c (BitVec.ofNat 32 s.val) (BitVec.ofNat 32 (128 * g.val))) S128x1024.size
    (k0_off2_inb c s g)
/-- The landing slot as a block of the landing buffer. -/
abbrev slotRect (k : Fin 6) : Rect S6x128x1024 :=
  Rect.unit (s := S6x128x1024) ![k.val, 0, 0] S1x128x1024.size (slot_inb k)

/-- The sum that is stored. -/
def accPay (v : Vec F S128x1024 .f32) (w : Vec F S1x128x1024 .f32) : FVec F S128x1024 .f32 :=
  addf (shapeCast S128x1024 v shapeCasts_S128x1024_S128x1024 : FVec F S128x1024 .f32)
    (shapeCast S128x1024 w shapeCasts_S1x128x1024_S128x1024 : FVec F S128x1024 .f32)

/-- Add a landed partial sum to the device's own rows. -/
def accRun (c : Dev nD) (s : Fin 3) (g : Fin 2) : P F PUnit := do
  let v : Vec F S128x1024 .f32 ← Prog.lift (.load xM (accRect c s g).toLoadRect (View.loadsAt_vmem h_S128x1024))
  let w : Vec F S1x128x1024 .f32 ← Prog.lift (.load cM (slotRect (slot s g)).toLoadRect (View.loadsAt_vmem h_S1x128x1024))
  let _u : Vec F S128x1024 .f32 ← Prog.lift (.load oM (accRect c s g).toLoadRect (View.loadsAt_vmem h_S128x1024))
  Prog.lift (.store oM (accRect c s g) (accPay v w) Finset.univ (View.stores_vmem_bits_univ h_S128x1024 rfl) (.inl rfl))

/-- An operation's program. -/
def opRun (c : Dev nD) : Op → P F PUnit
  | .sig k => semSignalWord (sigDev c k) barS 1#32
  | .bar => semWaitWord barS 5#32
  | .send i => sendRun c i
  | .waitS i => waitSRun c i
  | .waitR i => waitRRun c i
  | .acc s g => accRun c s g

/-- A list's program. -/
def listRun (c : Dev nD) : List Op → P F PUnit
  | [] => pure ⟨⟩
  | o :: l => opRun c o >>= fun _ => listRun c l

/-- The kernel's body, on the launch's buffers. -/
abbrev body : P F PUnit :=
  cc0_body xM (Memref.isWhole_whole _) oM (Memref.isWhole_whole _) cM (Memref.isWhole_whole _) cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14

/-- The kernel reads its device's number and then runs the table's list. -/
theorem body_eq : (body : P F PUnit) = (Prog.lift .deviceId >>= fun c => listRun c prog) := by
  sl_kernel_rfl

end Cert.KernelIdeal.Run

end
-- ==== Proof.RunIdeal.Geo.lean ====
/-
# Where the kernel's views lie

The kernel computes its devices and offsets in 32-bit words from its device number; here they are evaluated on every
device of the mesh and found to be the table's neighbours and bands. A view of 128 rows of a buffer is a band, a slot of
the landing buffer a slab; the elements under a view and what a copy between two of them writes are stated by row number.
-/
module

public import proofs.«01_k».proof.Proof.RunIdeal.Ops
public import Idealize.ShloMosaic.Lib.ValueLayout

@[expose] public section

set_option maxRecDepth 65536

noncomputable section

namespace Cert.KernelIdeal.Run

open Cert.KernelIdeal Cert.KernelIdeal.Gen Cert.AllReduce
open Idealize.ShloMosaic Idealize.SL.Sem Idealize.ShloMosaic.ValueIdx
open Idealize.ShloMosaic.TcCoe

variable {F : FTy → Type} [FloatOps F]

/-! ## Devices and offsets -/

theorem sigDev_eq (c : Dev nD) (k : Fin 5) : sigDev c k = (peer k).at c := by revert c k; decide +kernel

theorem trDev_eq (c : Dev nD) (i : Tr) : trDev c i = i.to.at c := by
  have h : ∀ i ∈ allTr, ∀ c, trDev c i = i.to.at c := by decide +kernel
  exact h i (mem_allTr i) c

theorem rsOff_eq (c : Dev nD) (s : Fin 3) (g : Fin 2) : rsOff c s g = ![128 * (bnd c 0 (rsJ s) g).val, 0] := by
  revert c s g; decide +kernel
theorem pubOff_eq (c : Dev nD) (j : Fin 4) (g : Fin 2) : pubOff c j g = ![128 * (bnd c 0 j g).val, 0] := by
  revert c j g; decide +kernel
theorem xfOff_eq (c : Dev nD) (j : Fin 3) : xfOff c j = ![128 * (bnd c 2 j.castSucc 0).val, 0] := by
  revert c j; decide +kernel
theorem yfOff_eq (c : Dev nD) (j : Fin 3) : yfOff c j = ![128 * (bnd c 1 j.castSucc 1).val, 0] := by
  revert c j; decide +kernel
theorem dqOff_eq (c : Dev nD) : k0_off11 c = ![128 * (bnd c 0 3 0).val, 0] := by revert c; decide +kernel
theorem accOff_eq (c : Dev nD) (s : Fin 3) (g : Fin 2) :
    k0_off2 c (BitVec.ofNat 32 s.val) (BitVec.ofNat 32 (128 * g.val)) = ![128 * (bnd c 0 (accJ s) g).val, 0] := by
  revert c s g; decide +kernel

/-! ## Bands and slots -/

/-- The elements of band `b`. -/
def bandSet (b : Fin 32) : Finset S4096x1024.Idx := Finset.univ.filter fun i => (i 0).val / 128 = b.val
/-- The elements of slot `k`. -/
def slotSet (k : Fin 6) : Finset S6x128x1024.Idx := Finset.univ.filter fun i => (i 0).val = k.val

theorem mem_bandSet {b : Fin 32} {i : S4096x1024.Idx} : i ∈ bandSet b ↔ (i 0).val / 128 = b.val := by
  unfold bandSet; rw [Finset.mem_filter]; exact ⟨fun h => h.2, fun h => ⟨Finset.mem_univ _, h⟩⟩
theorem mem_slotSet {k : Fin 6} {i : S6x128x1024.Idx} : i ∈ slotSet k ↔ (i 0).val = k.val := by
  unfold slotSet; rw [Finset.mem_filter]; exact ⟨fun h => h.2, fun h => ⟨Finset.mem_univ _, h⟩⟩

/-- The rectangle of 128 rows starting at `off` is band `b` when `off` is `b`'s first row. -/
theorem rect_set (off : Fin 2 → Nat) (h : ∀ a, off a + S128x1024.size a ≤ S4096x1024.size a) (b : Fin 32)
    (hb : off = ![128 * b.val, 0]) : (Rect.unit (s := S4096x1024) off S128x1024.size h).set = bandSet b := by
  subst hb
  ext i
  rw [Rect.mem_set_unit, mem_bandSet]
  constructor
  · intro h
    have h0 := h 0
    simp only [Matrix.cons_val_zero] at h0
    omega
  · intro h a
    have h1 := (i 1).isLt
    fin_cases a
    · simp; omega
    · simp; exact h1

/-- The chunk of 256 rows starting at `off` is the two bands `b`, `b'`. -/
theorem rect2_set (off : Fin 2 → Nat) (h : ∀ a, off a + S256x1024.size a ≤ S4096x1024.size a) (b b' : Fin 32)
    (hb : off = ![128 * b.val, 0]) (hb' : b'.val = b.val + 1) :
    (Rect.unit (s := S4096x1024) off S256x1024.size h).set = bandSet b ∪ bandSet b' := by
  subst hb
  ext i
  rw [Rect.mem_set_unit, Finset.mem_union, mem_bandSet, mem_bandSet]
  constructor
  · intro h
    have h0 := h 0
    simp only [Matrix.cons_val_zero] at h0
    omega
  · intro h a
    have h1 := (i 1).isLt
    fin_cases a
    · simp; omega
    · simp; exact h1

theorem slotRect_set (k : Fin 6) : (slotRect k).set = slotSet k := by
  ext i
  rw [Rect.mem_set_unit, mem_slotSet]
  constructor
  · intro h
    have h0 := h 0
    simp only [Matrix.cons_val_zero] at h0
    omega
  · intro h a
    have h1 := (i 1).isLt
    have h2 := (i 2).isLt
    fin_cases a
    · simp; omega
    · simp; exact h1
    · simp; exact h2

theorem oRows_set (off : Fin 2 → Nat) (h : ∀ a, off a + S128x1024.size a ≤ S4096x1024.size a) (b : Fin 32)
    (hb : off = ![128 * b.val, 0]) : (rows oM off h).view.set = bandSet b :=
  (View.set_slice_whole _ _).trans (rect_set off h b hb)
theorem xRows_set (off : Fin 2 → Nat) (h : ∀ a, off a + S128x1024.size a ≤ S4096x1024.size a) (b : Fin 32)
    (hb : off = ![128 * b.val, 0]) : (rows xM off h).view.set = bandSet b :=
  (View.set_slice_whole _ _).trans (rect_set off h b hb)
theorem dq_set (c : Dev nD) : (dqM c).view.set = bandSet (bnd c 0 3 0) ∪ bandSet (bnd c 0 3 1) :=
  (View.set_slice_whole _ _).trans (rect2_set _ _ _ _ (dqOff_eq c) (by revert c; decide +kernel))
theorem cmSlot_set (k : Fin 6) : (cmSlot k).view.set = slotSet k :=
  (View.set_reshape _ _).trans ((View.set_slice_whole _ _).trans (slotRect_set k))

theorem disjoint_bands {b b' : Fin 32} (h : b ≠ b') : Disjoint (bandSet b) (bandSet b') := by
  rw [Finset.disjoint_left]; intro i hi hi'
  exact h (Fin.ext ((mem_bandSet.mp hi).symm.trans (mem_bandSet.mp hi')))

/-- Row `r` of band `b`. -/
def rowOf (b : Fin 32) (r : Fin 128) : Fin 4096 := ⟨128 * b.val + r.val, by omega⟩

/-- Where row `i 0` of the band sits in the buffer. -/
theorem rect_emb (off : Fin 2 → Nat) (h : ∀ a, off a + S128x1024.size a ≤ S4096x1024.size a) (b : Fin 32)
    (hb : off = ![128 * b.val, 0]) (r : Fin 128) (k : Fin 1024) :
    (Rect.unit (s := S4096x1024) off S128x1024.size h).emb (ix2 r k) = ix2 (rowOf b r) k := by
  subst hb
  funext a
  refine Fin.ext ?_
  rw [Rect.emb_apply]
  fin_cases a
  · simp [rowOf]
  · simp

theorem slotRect_emb (k : Fin 6) (r : Fin 128) (l : Fin 1024) :
    (slotRect k).emb (ix3 (0 : Fin 1) r l) = ix3 k r l := by
  funext a
  refine Fin.ext ?_
  rw [Rect.emb_apply]
  fin_cases a
  · simp
  · simp
  · simp

theorem cmSlot_emb (k : Fin 6) (r : Fin 128) (l : Fin 1024) : (cmSlot k).view.emb (ix2 r l) = ix3 k r l := by
  show (slotRect k).emb (Shape.reshapeEquiv _ (ix2 r l)) = _
  rw [reshapeEquiv_ix2_1ab]
  exact slotRect_emb k r l

/-- An element of a band by row within it and column. -/
theorem exists_of_mem_band {b : Fin 32} {i : S4096x1024.Idx} (h : i ∈ bandSet b) :
    ∃ (r : Fin 128) (k : Fin 1024), i = ix2 (rowOf b r) k := by
  rw [mem_bandSet] at h
  refine ⟨⟨(i 0).val % 128, Nat.mod_lt _ (by decide)⟩, i 1, ?_⟩
  refine (eq_ix2 i).trans ?_
  congr 1
  refine Fin.ext ?_
  show (i 0).val = 128 * b.val + (i 0).val % 128
  omega

theorem exists_of_mem_slot {k : Fin 6} {i : S6x128x1024.Idx} (h : i ∈ slotSet k) :
    ∃ (r : Fin 128) (l : Fin 1024), i = ix3 k r l := by
  rw [mem_slotSet] at h
  refine ⟨i 1, i 2, ?_⟩
  refine (eq_ix3 i).trans ?_
  congr 1
  exact Fin.ext h

/-! ## What a copy writes -/

/-- A copy between a view and itself on another device leaves there what was read. -/
theorem write_read_self {s : Shape} (M : Memref sig .tc .vmem s .f32) (fd fs : M.view.ty.Contents (Elt F)) :
    ∀ i ∈ M.view.set, M.view.write (Elt F) fd (M.view.read (Elt F) fs) Finset.univ i = fs i := by
  intro i hi
  obtain ⟨x, -, rfl⟩ := Finset.mem_map.mp hi
  rw [View.write_emb_of_mem _ _ (Finset.mem_univ x), View.read_apply]
  simp

/-- A copy of a band into a slot leaves there, row by row, what was read. -/
theorem write_slot (M : Memref sig .tc .vmem S128x1024 .f32) (k : Fin 6) (fd : (cmSlot k).view.ty.Contents (Elt F))
    (fs : M.view.ty.Contents (Elt F)) (r : Fin 128) (l : Fin 1024) :
    (cmSlot k).view.write (Elt F) fd (M.view.read (Elt F) fs) Finset.univ (ix3 k r l) = M.view.read (Elt F) fs (ix2 r l) := by
  rw [← cmSlot_emb k r l]
  exact View.write_emb_of_mem _ _ (Finset.mem_univ _)

end Cert.KernelIdeal.Run

end
-- ==== Proof.RunIdeal.Sched.lean ====
/-
# Contents, pieces and the schedule

What the buffers hold at each stage, as functions of every device's input; the table's pieces, tokens and credits as
propositions about memory and semaphores; and the schedule: one round for every cell, in which a barrier cell expects
the five peers' units, each with what that peer hands over, and a DMA cell one copy's amount with what the copy returns
or delivers.
-/
module

public import proofs.«01_k».proof.Proof.RunIdeal.Geo
public import proofs.«01_k».proof.Proof.AllReduce.Cells
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

@[expose] public section

set_option maxRecDepth 65536

noncomputable section

namespace Cert.KernelIdeal.Run

open Cert.KernelIdeal Cert.KernelIdeal.Gen Cert.AllReduce
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Contents -/

/-- The contents of a buffer of 4096 rows. -/
abbrev Con (F : FTy → Type) : Type := S4096x1024.Idx → Elt F .f32

variable (X : Dev nD → Con F)

/-- The partial sum of `n + 1` devices' inputs along the ring, ending with device `c`'s. -/
def part : Nat → Dev nD → Con F
  | 0, c => X c
  | n + 1, c => fun i => (FloatOps.addf (X c i : F .f32) (part n (prv c) i : F .f32) : F .f32)

/-- The band an element lies in. -/
def bandOf (i : S4096x1024.Idx) : Fin 32 := ⟨(i 0).val / 128, by have : (i 0).val < 4096 := (i 0).isLt; omega⟩

/-- What device `c` has once it has accumulated: in each band the partial sum the ring has reached there. -/
def accBuf (c : Dev nD) : Con F := fun i => part X (deep c (bandOf i)) c i
/-- The finished sums: in each band its owner's sum of all four. -/
def finBuf (c : Dev nD) : Con F := fun i => part X 3 (owner c (bandOf i)) i
/-- The step a slot belongs to, … -/
def slotStep (k : Fin 6) : Fin 3 := ⟨k.val / 2, by omega⟩
/-- … and the half. -/
def slotHalf (k : Fin 6) : Fin 2 := ⟨k.val % 2, by omega⟩
/-- What lands in device `c`'s buffer: the previous device's partial sums. -/
def commBuf (c : Dev nD) : S6x128x1024.Idx → Elt F .f32 := fun i =>
  accBuf X (prv c) (ix2 (rowOf (bnd c 0 (accJ (slotStep (i 0))) (slotHalf (i 0))) (i 1)) (i 2))

theorem bandOf_of_mem {b : Fin 32} {i : S4096x1024.Idx} (h : i ∈ bandSet b) : bandOf i = b :=
  Fin.ext (mem_bandSet.mp h)

theorem acc_eq_part {c : Dev nD} {b : Fin 32} {n : Nat} (h : deep c b = n) : ∀ i ∈ bandSet b, accBuf X c i = part X n c i := by
  intro i hi; unfold accBuf; rw [bandOf_of_mem hi, h]
theorem fin_eq_part {c d : Dev nD} {b : Fin 32} (h : owner c b = d) : ∀ i ∈ bandSet b, finBuf X c i = part X 3 d i := by
  intro i hi; unfold finBuf; rw [bandOf_of_mem hi, h]
theorem finBuf_at (r : Rel) (c : Dev nD) : finBuf X (r.at c) = finBuf X c := by
  funext i; unfold finBuf; rw [owner_at]
/-- A device's own finished chunk. -/
theorem acc_eq_fin (c : Dev nD) (g : Fin 2) : ∀ i ∈ bandSet (bnd c 0 0 g), accBuf X c i = finBuf X c i := by
  intro i hi
  rw [acc_eq_part X (deep_acc c 2 g) i hi, fin_eq_part X (owner_own c g) i hi]
  rfl
theorem commBuf_slot (c : Dev nD) (s : Fin 3) (g : Fin 2) (r : Fin 128) (l : Fin 1024) :
    commBuf X c (ix3 (slot s g) r l) = accBuf X (prv c) (ix2 (rowOf (bnd c 0 (accJ s) g) r) l) := by
  have h1 : slotStep (slot s g) = s := by revert s g; decide
  have h2 : slotHalf (slot s g) = g := by revert s g; decide
  show accBuf X (prv c) (ix2 (rowOf (bnd c 0 (accJ (slotStep (slot s g))) (slotHalf (slot s g))) r) l) = _
  rw [h1, h2]
theorem row_mem_band (b : Fin 32) (r : Fin 128) (l : Fin 1024) : (ix2 (rowOf b r) l : S4096x1024.Idx) ∈ bandSet b := by
  rw [mem_bandSet]; show (128 * b.val + r.val) / 128 = b.val; omega

/-! ## Pieces -/

/-- The share a part is held at. -/
def shareOf : Sh → PosShare TreeShare
  | .full => fullShare | .s1 => fullShare.left | .s2 => fullShare.right.left | .s3 => fullShare.right.right

/-- A band of device `d`'s input. -/
abbrev xAt (d : Dev nD) (I : Finset S4096x1024.Idx) (f : Con F) : sProp 𝕄 :=
  ((d : Thread nD τ).loc cc0_stg0_0) ↦[I]{fullShare} f
/-- Elements of device `d`'s result buffer. -/
abbrev oAt (d : Dev nD) (I : Finset S4096x1024.Idx) (q : PosShare TreeShare) (f : Con F) : sProp 𝕄 :=
  ((d : Thread nD τ).loc cc0_stg1_0) ↦[I]{q} f
/-- Elements of device `d`'s landing buffer. -/
abbrev cAt (d : Dev nD) (I : Finset S6x128x1024.Idx) (f : S6x128x1024.Idx → Elt F .f32) : sProp 𝕄 :=
  ((d : Thread nD τ).loc cc0_scratch0) ↦[I]{fullShare} f

/-- A band of device `d`'s result buffer in a given state. -/
def oPc (d : Dev nD) (b : Fin 32) (sh : Sh) : St → sProp 𝕄
  | .any => iprop(∃ f, oAt d (bandSet b) (shareOf sh) f)
  | .acc => oAt d (bandSet b) (shareOf sh) (accBuf X d)
  | .fin => oAt d (bandSet b) (shareOf sh) (finBuf X d)
/-- A slot of device `d`'s landing buffer, before or after something has landed. -/
def cPc (d : Dev nD) (k : Fin 6) : Bool → sProp 𝕄
  | false => iprop(∃ f, cAt d (slotSet k) f)
  | true => cAt d (slotSet k) (commBuf X d)

/-- A piece of memory, named from device `c`. -/
def pc (c : Dev nD) : Piece → sProp 𝕄
  | .x q j g => xAt c (bandSet (bnd c q j g)) (X c)
  | .o r q j g st sh => oPc X (r.at c) (bnd (r.at c) q j g) sh st
  | .cm r k got => cPc X (r.at c) k got

/-- A list of pieces. -/
def pcs (c : Dev nD) : List Piece → sProp 𝕄
  | [] => iprop(emp)
  | p :: l => iprop(pc X c p ∗ pcs c l)

instance oPc_storable (d : Dev nD) (b : Fin 32) (sh : Sh) (st : St) : BI.Storable (upEmb : UEmb _ 𝕄) (oPc X d b sh st) := by
  cases st <;> unfold oPc <;> infer_instance
instance cPc_storable (d : Dev nD) (k : Fin 6) (got : Bool) : BI.Storable (upEmb : UEmb _ 𝕄) (cPc X d k got) := by
  cases got <;> unfold cPc <;> infer_instance
instance pc_storable (c : Dev nD) (p : Piece) : BI.Storable (upEmb : UEmb _ 𝕄) (pc X c p) := by
  cases p <;> unfold pc <;> infer_instance
instance pcs_storable (c : Dev nD) (l : List Piece) : BI.Storable (upEmb : UEmb _ 𝕄) (pcs X c l) := by
  induction l with
  | nil => unfold pcs; infer_instance
  | cons p l ih => unfold pcs; infer_instance

/-! ## The schedule -/

/-- Device `c`'s barrier cell. -/
abbrev barCell (c : Dev nD) : GSem nD τ sig := ((c : Thread nD τ), .reg barS)
/-- Device `c`'s DMA cell number `n`. -/
abbrev dmaCell (c : Dev nD) (n : Fin 76) : GSem nD τ sig := ((c : Thread nD τ), .dma n)

/-- The credit of a copy of 128 rows, … -/
abbrev N1 : ℕ := (cmSlot 0).view.dmaCredit
/-- … and of 256. -/
abbrev N2 : ℕ := (dqM 0).view.dmaCredit
theorem N1_pos : 0 < N1 := View.dmaCredit_pos _ (by decide)
theorem N2_pos : 0 < N2 := View.dmaCredit_pos _ (by decide)

/-- The credit of a copy. -/
def amt : Tr → ℕ
  | .dq => N2
  | _ => N1
theorem amt_pos (i : Tr) : 0 < amt i := by cases i <;> first | exact N1_pos | exact N2_pos

/-- What a semaphore's duties are in the one round. -/
def dutySet : SemLoc sig → Finset (Fin 5)
  | .reg _ => Finset.univ
  | .dma n => if (info n).isSome then {0} else ∅
/-- What a duty is worth. -/
def dutyAmt : SemLoc sig → ℕ
  | .reg _ => 1
  | .dma n => match info n with | some (_, i) => amt i | none => 1
/-- What comes with it. -/
def dutyPay (c : Dev nD) (k : Fin 5) : SemLoc sig → sProp 𝕄
  | .reg _ => pcs X c (handed k (peerFrom k))
  | .dma n => match info n with
    | some (false, i) => pcs X c (back i)
    | some (true, i) => pcs X c (arr i)
    | none => iprop(emp)

/-- The schedule. -/
def rd : Rounds.Schedule (GSem nD τ sig) (Fin 5) 𝕄 where
  duties g r := if r = 0 ∧ g.1.2 = .tc then dutySet g.2 else ∅
  unitless _ := False
  amount g _ _ := dutyAmt g.2
  payload g _ d := dutyPay X g.1.1 d g.2
  amount_pos g _ _ _ := by
    rcases g with ⟨t, s | n⟩
    · exact Nat.one_pos
    · show 0 < (match info n with | some (_, i) => amt i | none => 1)
      split
      · exact amt_pos _
      · exact Nat.one_pos

instance rd_payload_storable (g : GSem nD τ sig) (r : ℕ) (d : Fin 5) :
    BI.Storable (upEmb : UEmb _ 𝕄) ((rd X).payload g r d) := by
  show BI.Storable upEmb (dutyPay X g.1.1 d g.2)
  rcases g with ⟨t, s | n⟩
  · unfold dutyPay; infer_instance
  · unfold dutyPay; dsimp only; split <;> infer_instance

theorem duties_later (g : GSem nD τ sig) : ∀ r, 1 ≤ r → (rd X).duties g r = ∅ :=
  fun r hr => by dsimp only [rd]; rw [if_neg fun h => by omega]
theorem duties_bar (c : Dev nD) : (rd X).duties (barCell c) 0 = Finset.univ := by
  dsimp only [rd]; rw [if_pos ⟨rfl, rfl⟩]; rfl
theorem duties_dma (c : Dev nD) {n : Fin 76} {e : Bool × Tr} (h : info n = some e) : (rd X).duties (dmaCell c n) 0 = {0} := by
  dsimp only [rd]; rw [if_pos ⟨rfl, rfl⟩]; unfold dutySet; dsimp only; rw [h]; rfl
theorem duties_none (c : Dev nD) {n : Fin 76} (h : info n = none) (r : ℕ) : (rd X).duties (dmaCell c n) r = ∅ := by
  dsimp only [rd]; split
  · unfold dutySet; dsimp only; rw [h]; rfl
  · rfl
theorem amount_bar (c : Dev nD) (k : Fin 5) : (rd X).amount (barCell c) 0 k = 1 := rfl
theorem amount_dma (c : Dev nD) {n : Fin 76} {e : Bool} {i : Tr} (h : info n = some (e, i)) (k : Fin 5) :
    (rd X).amount (dmaCell c n) 0 k = amt i := by
  dsimp only [rd]; unfold dutyAmt; dsimp only; rw [h]
theorem expect_bar (c : Dev nD) : (rd X).expect (barCell c) 0 = 5 := by
  unfold Schedule.expect Schedule.amountOf
  rw [duties_bar, Finset.sum_congr rfl fun d _ => amount_bar X c d, Finset.sum_const, Finset.card_univ, Fintype.card_fin, smul_eq_mul]
theorem expect_dma (c : Dev nD) {n : Fin 76} {e : Bool} {i : Tr} (h : info n = some (e, i)) :
    (rd X).expect (dmaCell c n) 0 = amt i := by
  unfold Schedule.expect Schedule.amountOf
  rw [duties_dma X c h, Finset.sum_singleton, amount_dma X c h]
theorem pay_bar (c : Dev nD) (k : Fin 5) : (rd X).payload (barCell c) 0 k = pcs X c (handed k (peerFrom k)) := rfl
theorem pay_s (c : Dev nD) (i : Tr) : (rd X).payload (dmaCell c i.sNum) 0 0 = pcs X c (back i) := by
  dsimp only [rd]; unfold dutyPay; dsimp only; rw [info_s]
theorem pay_r (c : Dev nD) (i : Tr) : (rd X).payload (dmaCell c i.rNum) 0 0 = pcs X c (arr i) := by
  dsimp only [rd]; unfold dutyPay; dsimp only; rw [info_r]

theorem rest_dma (c : Dev nD) {n : Fin 76} {e : Bool × Tr} (h : info n = some e) :
    bigSep ((rd X).duties (dmaCell c n) 0 \ ∅) (fun d => (rd X).payload (dmaCell c n) 0 d) = (rd X).payload (dmaCell c n) 0 0 := by
  rw [Finset.sdiff_empty, duties_dma X c h, bigSep_singleton]

theorem sep_assoc_eq (P Q R : sProp 𝕄) : iprop((P ∗ Q) ∗ R) = iprop(P ∗ Q ∗ R) :=
  BI.equiv_iff.mp ⟨(sep_assoc (PROP := sProp 𝕄)).1, (sep_assoc (PROP := sProp 𝕄)).2⟩
theorem emp_sep_eq (P : sProp 𝕄) : iprop(emp ∗ P) = P :=
  BI.equiv_iff.mp ⟨(emp_sep (PROP := sProp 𝕄)).1, (emp_sep (PROP := sProp 𝕄)).2⟩

theorem pcs_append (c : Dev nD) (l l' : List Piece) : pcs X c (l ++ l') = iprop(pcs X c l ∗ pcs X c l') := by
  induction l with
  | nil => exact (emp_sep_eq _).symm
  | cons p l ih =>
    show iprop(pc X c p ∗ pcs X c (l ++ l')) = iprop((pc X c p ∗ pcs X c l) ∗ pcs X c l')
    rw [ih]
    exact (sep_assoc_eq _ _ _).symm

theorem rest_bar (c : Dev nD) :
    bigSep ((rd X).duties (barCell c) 0 \ ∅) (fun d => (rd X).payload (barCell c) 0 d) = pcs X c barGives := by
  rw [Finset.sdiff_empty, duties_bar, bigSep_univ_eq_bigSepL [0, 1, 2, 3, 4] (by decide) (by decide), bigSepL_cons_cons,
    bigSepL_cons_cons, bigSepL_cons_cons, bigSepL_cons_cons, bigSepL_singleton]
  unfold barGives
  rw [pcs_append, pcs_append, pcs_append, pcs_append]
  simp only [pay_bar]
  simp only [sep_assoc_eq]
  rfl

/-! ## Holdings -/

/-- What a device holds, as a proposition. -/
def res (c : Dev nD) : Res → sProp 𝕄
  | .p p => pc X c p
  | .tS i => dutyTok ER (dmaCell c i.sNum) 0 0
  | .tR i => dutyTok ER (dmaCell (i.to.at c) i.rNum) 0 0
  | .tB k => dutyTok ER (barCell ((peer k).at c)) 0 k
  | .aS i => atPos ER (dmaCell c i.sNum) 0 ∅ 0
  | .aR i => atPos ER (dmaCell c i.rNum) 0 ∅ 0
  | .aB => atPos ER (barCell c) 0 ∅ 0
  | .zS i => atPos ER (dmaCell c i.sNum) (0 + 1) ∅ 0
  | .zR i => atPos ER (dmaCell c i.rNum) (0 + 1) ∅ 0
  | .zB => atPos ER (barCell c) (0 + 1) ∅ 0
  | .cS i => cred (tallyAt (dmaCell c i.sNum) () (amt i))
  | .cR i => cred (tallyAt (dmaCell c i.rNum) () (amt i))
  | .cB => cred (tallyAt (barCell c) () 5)

/-- A list of such. -/
def holds (c : Dev nD) : List Res → sProp 𝕄
  | [] => iprop(emp)
  | p :: l => iprop(res X c p ∗ holds c l)

theorem holds_append (c : Dev nD) (l l' : List Res) : holds X c (l ++ l') = iprop(holds X c l ∗ holds X c l') := by
  induction l with
  | nil => exact (emp_sep_eq _).symm
  | cons p l ih =>
    show iprop(res X c p ∗ holds X c (l ++ l')) = iprop((res X c p ∗ holds X c l) ∗ holds X c l')
    rw [ih]
    exact (sep_assoc_eq _ _ _).symm

theorem holds_pcs (c : Dev nD) (l : List Piece) : holds X c (l.map .p) = pcs X c l := by
  induction l with
  | nil => rfl
  | cons p l ih =>
    show iprop(pc X c p ∗ holds X c (l.map .p)) = iprop(pc X c p ∗ pcs X c l)
    rw [ih]

/-- Taking one thing out of a holding. -/
theorem take1_sound (c : Dev nD) (r : Res) : ∀ (S S' : List Res), take1 r S = some S' → holds X c S ⊢ iprop(res X c r ∗ holds X c S')
  | [], _, h => by cases h
  | a :: l, S', h => by
    unfold take1 at h
    split at h
    · next hr => subst hr; cases h; exact BI.Entails.refl _
    · rw [Option.map_eq_some_iff] at h
      obtain ⟨l', hl, rfl⟩ := h
      have ih := take1_sound c r l l' hl
      show iprop(res X c a ∗ holds X c l) ⊢ iprop(res X c r ∗ res X c a ∗ holds X c l')
      iintro ⟨Ha, Hl⟩
      ihave H := ih $$ Hl
      icases H with ⟨Hr, Hl⟩
      isplitl [Hr]; · iexact Hr
      isplitl [Ha] <;> iassumption

/-- Taking a list of things out of a holding. -/
theorem takeAll_sound (c : Dev nD) : ∀ (rs S S' : List Res), takeAll rs S = some S' →
    holds X c S ⊢ iprop(holds X c rs ∗ holds X c S')
  | [], S, S', h => by cases h; exact (emp_sep (PROP := sProp 𝕄)).2
  | r :: rs, S, S', h => by
    unfold takeAll at h
    rw [Option.bind_eq_some_iff] at h
    obtain ⟨S₁, h₁, h₂⟩ := h
    have i1 := take1_sound X c r S S₁ h₁
    have i2 := takeAll_sound c rs S₁ S' h₂
    show holds X c S ⊢ iprop((res X c r ∗ holds X c rs) ∗ holds X c S')
    iintro H
    ihave H := i1 $$ H
    icases H with ⟨Hr, H⟩
    ihave H := i2 $$ H
    icases H with ⟨Hrs, H⟩
    isplitl [Hr Hrs]
    · isplitl [Hr] <;> iassumption
    iexact H

/-! ## What is owed, and the levels -/

/-- What an operation discharges. -/
def owes1 (c : Dev nD) : Op → CellTallies nD τ sig Unit
  | .sig k => tallyAt (barCell ((peer k).at c)) () 1
  | .send i => tallyAt (dmaCell (i.to.at c) i.rNum) () (amt i)
  | _ => 0
/-- What a device still owes before the operations `l`. -/
def owed (c : Dev nD) : List Op → CellTallies nD τ sig Unit
  | [] => 0
  | o :: l => owed c l + owes1 c o

def L (g : GSem nD τ sig) : Finset Unit := if g.1.2 = .tc then {()} else ∅
/-- A semaphore's level. -/
def semLev : SemLoc sig → ℕ
  | .reg _ => 1
  | .dma n => match info n with | some (true, i) => i.lev | some (false, _) => 1 | none => 0
def lv (g : GSem nD τ sig) (_ : Unit) : ℕ := semLev g.2

theorem L_of_ne (g : GSem nD τ sig) (h : g.1.2 ≠ .tc) : L g = ∅ := if_neg h
theorem L_tc (c : Dev nD) (sm : SemLoc sig) : L ((c : Thread nD τ), sm) = {()} := if_pos rfl
theorem semLev_s (i : Tr) : semLev (.dma i.sNum) = 1 := by unfold semLev; dsimp only; rw [info_s]
theorem semLev_r (i : Tr) : semLev (.dma i.rNum) = i.lev := by unfold semLev; dsimp only; rw [info_r]

theorem owed_pos {c : Dev nD} {g : GSem nD τ sig} {u : Unit} : ∀ {l : List Op}, 0 < owed c l g u →
    ∃ o ∈ l, ∃ k, o.owes = some k ∧ semLev g.2 = k ∧ g.1.2 = .tc
  | [], h => absurd h (Nat.lt_irrefl 0)
  | o :: l, h => by
    unfold owed at h
    rw [Pi.add_apply, Finsupp.add_apply] at h
    by_cases h' : 0 < owed c l g u
    · obtain ⟨o', ho, r⟩ := owed_pos h'
      exact ⟨o', List.mem_cons_of_mem _ ho, r⟩
    · have h1 : 0 < owes1 c o g u := by omega
      refine ⟨o, List.mem_cons_self, ?_⟩
      cases o with
      | sig k =>
        unfold owes1 at h1; dsimp only at h1; rw [tallyAt_apply] at h1
        split at h1
        · next hg => exact ⟨1, rfl, by rw [hg.1]; rfl, by rw [hg.1]⟩
        · exact absurd h1 (Nat.lt_irrefl 0)
      | send i =>
        unfold owes1 at h1; dsimp only at h1; rw [tallyAt_apply] at h1
        split at h1
        · next hg => exact ⟨i.lev, rfl, by rw [hg.1]; exact semLev_r i, by rw [hg.1]⟩
        · exact absurd h1 (Nat.lt_irrefl 0)
      | bar => exact absurd h1 (Nat.lt_irrefl 0)
      | waitS i => exact absurd h1 (Nat.lt_irrefl 0)
      | waitR i => exact absurd h1 (Nat.lt_irrefl 0)
      | acc s g => exact absurd h1 (Nat.lt_irrefl 0)

/-- A wait whose level is below everything owed. -/
theorem mayWait (c : Dev nD) (sm : SemLoc sig) (l : List Op)
    (h : ∀ o ∈ l, ∀ k, o.owes = some k → semLev sm < k) :
    (levAts L lv : sProp 𝕄) ⊢ MayWait (c : Thread nD τ) sm () (owed c l) := by
  refine MayOwe.of_cut (L := L) (lev := lv) (semLev sm)
    (fun p hp => by rw [Finset.mem_singleton.mp hp, L_tc]; exact Finset.mem_singleton_self _)
    (fun g u hg => by
      obtain ⟨_, _, _, _, _, ht⟩ := owed_pos hg
      unfold L; rw [if_pos ht]; exact Finset.mem_singleton_self _)
    (fun p hp => by rw [Finset.mem_singleton.mp hp]; exact Nat.le_refl _)
    (fun g u hg => by
      obtain ⟨o, ho, k, hk, hl, _⟩ := owed_pos hg
      show semLev sm < semLev g.2
      rw [hl]; exact h o ho k hk)

end Cert.KernelIdeal.Run

end
-- ==== Proof.RunIdeal.Steps.lean ====
/-
# One operation at a time

For each kind of operation: from what the table says it takes, its program runs to what the table says it gives. The
copies are proved by family over two core lemmas, one for a copy whose source comes back when it has been sent and one
for a copy whose source arrives with what it delivers.
-/
module

public import proofs.«01_k».proof.Proof.RunIdeal.Sched

@[expose] public section

set_option maxRecDepth 65536

noncomputable section

namespace Cert.KernelIdeal.Run

open Cert.KernelIdeal Cert.KernelIdeal.Gen Cert.AllReduce
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Con F)

abbrev 𝒱₀ : Variants := Variants.none

/-! ## Cells and records -/

/-- A device's cells: its barrier semaphore and its 74 DMA semaphores. -/
abbrev Cell : Type := Fin 1 ⊕ Fin 74
/-- Their semaphores. -/
def csem : Cell → SemLoc sig
  | .inl _ => .reg barS
  | .inr k => .dma (⟨k.val + 2, by omega⟩ : Fin 76)
/-- All devices' cells. -/
def kcell (ck : Dev nD × Cell) : GSem nD τ sig := ((ck.1 : Thread nD τ), csem ck.2)

/-- Every cell's invariant and that its round is open; the levels. -/
def recs (K : Dev nD × Cell → ℕ) : sProp 𝕄 :=
  iprop((bigSep Finset.univ fun ck : Dev nD × Cell => cellInv ER (rd X) (K ck) (kcell ck))
    ∗ (bigSep Finset.univ fun ck : Dev nD × Cell => reached ER (kcell ck) 0) ∗ levAts L lv)

instance recs_persistent (K : Dev nD × Cell → ℕ) : BI.Persistent (recs X K) := by unfold recs; infer_instance

variable (K : Dev nD × Cell → ℕ)

theorem recs_cell (ck : Dev nD × Cell) : recs X K ⊢ iprop(cellInv ER (rd X) (K ck) (kcell ck) ∗ reached ER (kcell ck) 0) := by
  unfold recs
  iintro ⟨#HI, #HR, -⟩
  isplitr
  · iapply (show (bigSep Finset.univ fun ck : Dev nD × Cell => (cellInv ER (rd X) (K ck) (kcell ck) : sProp 𝕄)) ⊢ cellInv ER (rd X) (K ck) (kcell ck) from
      bigSep_elim (Finset.mem_univ ck)); iexact HI
  · iapply (show (bigSep Finset.univ fun ck : Dev nD × Cell => (reached ER (kcell ck) 0 : sProp 𝕄)) ⊢ reached ER (kcell ck) 0 from
      bigSep_elim (Finset.mem_univ ck)); iexact HR

theorem recs_dma (c : Dev nD) (n : Fin 76) (h : 2 ≤ n.val) :
    recs X K ⊢ iprop(∃ κ, cellInv ER (rd X) κ (dmaCell c n) ∗ reached ER (dmaCell c n) 0) := by
  have e : kcell (c, .inr (⟨n.val - 2, by omega⟩ : Fin 74)) = dmaCell c n := by
    have : (⟨n.val - 2 + 2, by omega⟩ : Fin 76) = n := Fin.ext (by show n.val - 2 + 2 = n.val; omega)
    exact congrArg (fun x : Fin 76 => dmaCell c x) this
  have r := recs_cell X K (c, .inr (⟨n.val - 2, by omega⟩ : Fin 74))
  rw [e] at r
  refine r.trans ?_
  iintro H
  iexists _
  iexact H

theorem recs_bar (c : Dev nD) : recs X K ⊢ iprop(∃ κ, cellInv ER (rd X) κ (barCell c) ∗ reached ER (barCell c) 0) := by
  refine (recs_cell X K (c, .inl 0)).trans ?_
  iintro H
  iexists _
  iexact H

theorem recs_lev : recs X K ⊢ levAts L lv := by
  unfold recs
  iintro ⟨-, -, H⟩
  iexact H

/-- The weakest precondition of a program on device `c`. -/
abbrev wpc (c : Dev nD) (p : P F PUnit) (Q : PUnit → sProp 𝕄) : sProp 𝕄 :=
  wp frame (wpE (defs₀ (F := F)) 𝒱₀ (c : Thread nD τ) none) Set.univ p Q

/-! ## Signals -/

theorem handed_eq (k : Fin 5) (r r' : Rel) (c c' : Dev nD) (h : r.at c = r'.at c') :
    pcs X c (handed k r) = pcs X c' (handed k r') := by
  fin_cases k <;> simp only [handed, anyQuarter, pcs, pc, h, List.cons_append, List.nil_append]

theorem step_sig (c : Dev nD) (k : Fin 5) (O : CellTallies nD τ sig Unit) (W : Waits sig Unit) (f : PUnit → P F PUnit)
    (Q : PUnit → sProp 𝕄) :
    iprop(recs X K ∗ (dutyTok ER (barCell ((peer k).at c)) 0 k ∗ pcs X c (handed k .self))
        ∗ owes (c : Thread nD τ) (O + owes1 c (.sig k)) W)
      ⊢ iprop((owes (c : Thread nD τ) O W -∗ wpc c (f ⟨⟩) Q) -∗ wpc c (opRun c (.sig k) >>= f) Q) := by
  show _ ⊢ iprop(_ -∗ wpc c (semSignalWord (sigDev c k) barS 1#32 >>= f) Q)
  rw [sigDev_eq]
  generalize hd : (peer k).at c = d
  simp only [semSignalWord, Prog.bind_op, Prog.bind_ret]
  iintro ⟨#HR, ⟨Ht, Hp⟩, HO⟩
  ihave H := (recs_bar X K d) $$ HR
  icases H with ⟨%κ, #HI, #Hr⟩
  iapply (Rounds.wp_signal 𝒱₀ ER (rd X) (c : Thread nD τ) none (dst := (d : Thread nD τ)) (κ := κ)
      (d := k) (by rw [duties_bar]; exact Finset.mem_univ _) ((amount_bar X d k).trans (by decide)) () O
      (by subst hd; rfl)) $$ [HO Ht Hp]
  isplitr; · iexact HI
  isplitl [HO]; · iexact HO
  isplitl [Ht]; · iexact Ht
  isplitl [Hp]
  · rw [pay_bar]
    iapply (Entails.of_eq (handed_eq X k .self (peerFrom k) c d (by subst hd; exact (peerFrom_peer k c).symm))); iexact Hp
  iexact Hr

/-! ## Waits -/

theorem step_bar (c : Dev nD) (l : List Op) (hw : waitOk .bar l = true) (W : Waits sig Unit) (f : PUnit → P F PUnit)
    (Q : PUnit → sProp 𝕄) :
    iprop(recs X K ∗ (atPos ER (barCell c) 0 ∅ 0 ∗ cred (tallyAt (barCell c) () 5)) ∗ owes (c : Thread nD τ) (owed c l) W)
      ⊢ iprop((((atPos ER (barCell c) (0 + 1) ∅ 0 ∗ pcs X c barGives) ∗ owes (c : Thread nD τ) (owed c l) (insert (SemLoc.reg barS, ()) W)) -∗ wpc c (f ⟨⟩) Q)
        -∗ wpc c (opRun c .bar >>= f) Q) := by
  show _ ⊢ iprop(_ -∗ wpc c (semWaitWord barS 5#32 >>= f) Q)
  simp only [semWaitWord, Prog.bind_op, Prog.bind_ret]
  iintro ⟨#HR, ⟨Ha, Hc⟩, HO⟩ Hk
  ihave H := (recs_bar X K c) $$ HR
  icases H with ⟨%κ, #HI, -⟩
  iapply (Rounds.wp_wait_rest_token 𝒱₀ ER (rd X) (c : Thread nD τ) none (κ := κ)
      (wpE_semWait_eq 𝒱₀ (c : Thread nD τ) none Set.univ) (Set.mem_univ _) () (O := owed c l) (W := W) (R := 0) (m := 0) (T := ∅)
      (by rw [expect_bar]; decide)) $$ [HO Ha Hc]
  · isplitr; · iexact HI
    isplitl [Hc]; · iexact Hc
    isplitl [HO]; · iexact HO
    isplitr
    · iapply (mayWait c (.reg barS) l (fun o ho k hk => by
        unfold waitOk at hw
        have h := List.all_eq_true.mp hw o ho
        rw [hk] at h
        exact (Nat.blt_eq (x := 1) (y := k)).mp h))
      iapply (recs_lev X K); iexact HR
    iexact Ha
  iintro ⟨HO, Ha, -, Hp⟩
  iapply Hk
  isplitr [HO]
  · isplitl [Ha]; · iexact Ha
    iapply (Entails.of_eq (rest_bar X c)); iexact Hp
  iexact HO

/-- A wait on a DMA cell for one copy's amount. -/
theorem wait_core {s : Shape} {sp sp' : Space} (c : Dev nD) (n : Fin 76) (e : Bool) (i : Tr) (hn : info n = some (e, i)) (h2 : 2 ≤ n.val)
    (M : Memref sig .tc sp s .f32) (M' : Memref sig .tc sp' s .f32) (hN : M'.view.dmaCredit = amt i)
    (h : M.view.WordExact) (h' : M'.view.WordExact)
    (l : List Op) (hw : ∀ o ∈ l, ∀ k, o.owes = some k → semLev (.dma n) < k) (W : Waits sig Unit) (f : PUnit → P F PUnit)
    (Q : PUnit → sProp 𝕄) :
    iprop(recs X K ∗ (atPos ER (dmaCell c n) 0 ∅ 0 ∗ cred (tallyAt (dmaCell c n) () (amt i))) ∗ owes (c : Thread nD τ) (owed c l) W)
      ⊢ iprop((((atPos ER (dmaCell c n) (0 + 1) ∅ 0 ∗ (rd X).payload (dmaCell c n) 0 0) ∗ owes (c : Thread nD τ) (owed c l) (insert (SemLoc.dma n, ()) W)) -∗ wpc c (f ⟨⟩) Q)
        -∗ wpc c (.op (.waitDma2 n M M' h h') f) Q) := by
  iintro ⟨#HR, ⟨Ha, Hc⟩, HO⟩ Hk
  ihave H := (recs_dma X K c n h2) $$ HR
  icases H with ⟨%κ, #HI, -⟩
  iapply (Rounds.wp_wait_rest_token 𝒱₀ ER (rd X) (c : Thread nD τ) none (κ := κ)
      (wpE_waitDma2_eq 𝒱₀ (c : Thread nD τ) none Set.univ) (Set.mem_univ _) () (O := owed c l) (W := W) (R := 0) (m := 0) (T := ∅)
      (by rw [Nat.zero_add, expect_dma X c hn]; exact hN)) $$ [HO Ha Hc]
  · isplitr; · iexact HI
    isplitl [Hc]; · rw [← hN]; iexact Hc
    isplitl [HO]; · iexact HO
    isplitr
    · iapply (mayWait c (.dma n) l hw)
      iapply (recs_lev X K); iexact HR
    iexact Ha
  iintro ⟨HO, Ha, -, Hp⟩
  iapply Hk
  isplitr [HO]
  · isplitl [Ha]; · iexact Ha
    iapply (Entails.of_eq (rest_dma X c hn)); iexact Hp
  iexact HO

theorem waitOk_lt {o : Op} {n : Nat} {l : List Op} (hw : waitOk o l = true) (ho : o.waits = some n) :
    ∀ o' ∈ l, ∀ k, o'.owes = some k → n < k := by
  intro o' ho' k hk
  unfold waitOk at hw
  rw [ho] at hw
  have h := List.all_eq_true.mp hw o' ho'
  rw [hk] at h
  exact (Nat.blt_eq (x := n) (y := k)).mp h

theorem step_waitS (c : Dev nD) (i : Tr) (l : List Op) (hw : waitOk (.waitS i) l = true) (W : Waits sig Unit)
    (f : PUnit → P F PUnit) (Q : PUnit → sProp 𝕄) :
    iprop(recs X K ∗ (atPos ER (dmaCell c i.sNum) 0 ∅ 0 ∗ cred (tallyAt (dmaCell c i.sNum) () (amt i))) ∗ owes (c : Thread nD τ) (owed c l) W)
      ⊢ iprop((((atPos ER (dmaCell c i.sNum) (0 + 1) ∅ 0 ∗ pcs X c (back i)) ∗ owes (c : Thread nD τ) (owed c l) (insert (SemLoc.dma i.sNum, ()) W)) -∗ wpc c (f ⟨⟩) Q)
        -∗ wpc c (opRun c (.waitS i) >>= f) Q) := by
  have h : ∀ o ∈ l, ∀ k, o.owes = some k → semLev (.dma i.sNum) < k := by
    rw [semLev_s]; exact waitOk_lt hw rfl
  rw [← pay_s]
  cases i with
  | rs s g =>
    fin_cases s <;> exact wait_core X K c _ false _ (info_s _) (sNum_ge _) _ _ rfl _ _ l h W f Q
  | _ => exact wait_core X K c _ false _ (info_s _) (sNum_ge _) _ _ rfl _ _ l h W f Q

theorem step_waitR (c : Dev nD) (i : Tr) (l : List Op) (hw : waitOk (.waitR i) l = true) (W : Waits sig Unit)
    (f : PUnit → P F PUnit) (Q : PUnit → sProp 𝕄) :
    iprop(recs X K ∗ (atPos ER (dmaCell c i.rNum) 0 ∅ 0 ∗ cred (tallyAt (dmaCell c i.rNum) () (amt i))) ∗ owes (c : Thread nD τ) (owed c l) W)
      ⊢ iprop((((atPos ER (dmaCell c i.rNum) (0 + 1) ∅ 0 ∗ pcs X c (arr i)) ∗ owes (c : Thread nD τ) (owed c l) (insert (SemLoc.dma i.rNum, ()) W)) -∗ wpc c (f ⟨⟩) Q)
        -∗ wpc c (opRun c (.waitR i) >>= f) Q) := by
  have h : ∀ o ∈ l, ∀ k, o.owes = some k → semLev (.dma i.rNum) < k := by
    rw [semLev_r]; exact waitOk_lt hw rfl
  rw [← pay_r]
  cases i with
  | rs s g =>
    fin_cases s <;> exact wait_core X K c _ true _ (info_r _) (rNum_ge _) _ _ rfl _ _ l h W f Q
  | _ => exact wait_core X K c _ true _ (info_r _) (rNum_ge _) _ _ rfl _ _ l h W f Q

/-! ## Copies: the two cores -/

/-- The program that starts the copy `i` from `M` to `M'` on device `d`. -/
abbrev copyP {s : Shape} (d : Dev nD) (M M' : Memref sig .tc .vmem s .f32) (i : Tr) (h : M.view.WordExact) (h' : M'.view.WordExact)
    (hs : M'.view.ref.isScScratch = false) (ht : DmaTarget.Typed (nD := nD) (τ := τ) (p := .tc) .vmem (.dma i.rNum) (.remote (Dev.tc d) M' (.dma i.sNum) hs))
    (f : PUnit → P F PUnit) : P F PUnit :=
  .op (.enqueueDma M (.remote (Dev.tc d) M' (.dma i.sNum) hs) (.dma i.rNum) h h' ht) f

/-- A copy whose source comes back when it has been sent. -/
theorem copy_back {s : Shape} (c : Dev nD) (M M' : Memref sig .tc .vmem s .f32) (i : Tr) (h : M.view.WordExact) (h' : M'.view.WordExact)
    (hs : M'.view.ref.isScScratch = false) (ht : DmaTarget.Typed (nD := nD) (τ := τ) (p := .tc) .vmem (.dma i.rNum) (.remote (Dev.tc (i.to.at c)) M' (.dma i.sNum) hs))
    (hN : M'.view.dmaCredit = amt i) (q : PosShare TreeShare)
    (fs : Buf (Elt F) (M.view.loc (c : Thread nD τ))) (fd : Buf (Elt F) (M'.view.loc (i.to.at c : Thread nD τ))) (R : sProp 𝕄)
    (hb : (M.view.loc (c : Thread nD τ) ↦[M.view.set]{q} fs) ⊢ pcs X c (back i))
    (ha : iprop((M'.view.loc (i.to.at c : Thread nD τ) ↦[M'.view.set]{fullShare} (M'.view.write (Elt F) fd (M.view.read (Elt F) fs) Finset.univ)) ∗ R)
      ⊢ pcs X (i.to.at c) (arr i))
    (O : CellTallies nD τ sig Unit) (W : Waits sig Unit) (f : PUnit → P F PUnit) (Q : PUnit → sProp 𝕄) :
    iprop(recs X K ∗ (dutyTok ER (dmaCell c i.sNum) 0 0 ∗ dutyTok ER (dmaCell (i.to.at c) i.rNum) 0 0)
        ∗ (M.view.loc (c : Thread nD τ) ↦[M.view.set]{q} fs) ∗ ((M'.view.loc (i.to.at c : Thread nD τ) ↦[M'.view.set]{fullShare} fd) ∗ R)
        ∗ owes (c : Thread nD τ) (O + owes1 c (.send i)) W)
      ⊢ iprop(((cred (tallyAt (dmaCell c i.sNum) () (amt i)) ∗ owes (c : Thread nD τ) O W) -∗ wpc c (f ⟨⟩) Q)
        -∗ wpc c (copyP (i.to.at c) M M' i h h' hs ht f) Q) := by
  iintro ⟨#HR, ⟨Ht1, Ht2⟩, Hs, Hd, HO⟩
  ihave H1 := (recs_dma X K c i.sNum (sNum_ge i)) $$ HR
  icases H1 with ⟨%κ₁, #HI1, #Hr1⟩
  ihave H2 := (recs_dma X K (i.to.at c) i.rNum (rNum_ge i)) $$ HR
  icases H2 with ⟨%κ₂, #HI2, #Hr2⟩
  iapply (Rounds.wp_send_pointsTo_with 𝒱₀ ER (rd X) (c : Thread nD τ) none (κ₁ := κ₁) (κ₂ := κ₂)
    (r₁ := 0) (r₂ := 0) (d₁ := 0) (d₂ := 0) (fd := fd) (F := R) (c' := (i.to.at c : Thread nD τ)) (src := M) (dst := M') (sS := .dma i.sNum) (sem := .dma i.rNum)
    (by rw [duties_dma X c (info_s i)]; exact Finset.mem_singleton_self _)
    (by rw [duties_dma X (i.to.at c) (info_r i)]; exact Finset.mem_singleton_self _)
    () () (amt i) hN (amount_dma X c (info_s i) 0) (amount_dma X (i.to.at c) (info_r i) 0) O rfl (W := W)
    (by rw [pay_s]; exact hb) (by rw [pay_r]; exact ha)) $$ [Ht1 Ht2 Hs Hd HO]
  isplitr; · iexact HI1
  isplitr; · iexact HI2
  isplitl [Hs]; · iexact Hs
  isplitl [Hd]; · iexact Hd
  isplitl [HO]; · iexact HO
  isplitl [Ht1]; · iexact Ht1
  isplitr; · iexact Hr1
  isplitl [Ht2]; · iexact Ht2
  iexact Hr2

/-- A copy whose source arrives along with it. -/
theorem copy_give {s : Shape} (c : Dev nD) (M M' : Memref sig .tc .vmem s .f32) (i : Tr) (h : M.view.WordExact) (h' : M'.view.WordExact)
    (hs : M'.view.ref.isScScratch = false) (ht : DmaTarget.Typed (nD := nD) (τ := τ) (p := .tc) .vmem (.dma i.rNum) (.remote (Dev.tc (i.to.at c)) M' (.dma i.sNum) hs))
    (hN : M'.view.dmaCredit = amt i) (q : PosShare TreeShare)
    (fs : Buf (Elt F) (M.view.loc (c : Thread nD τ))) (fd : Buf (Elt F) (M'.view.loc (i.to.at c : Thread nD τ))) (R : sProp 𝕄)
    (hb : back i = [])
    (ha : iprop(((M'.view.loc (i.to.at c : Thread nD τ) ↦[M'.view.set]{fullShare} (M'.view.write (Elt F) fd (M.view.read (Elt F) fs) Finset.univ)) ∗ R)
        ∗ (M.view.loc (c : Thread nD τ) ↦[M.view.set]{q} fs))
      ⊢ pcs X (i.to.at c) (arr i))
    (O : CellTallies nD τ sig Unit) (W : Waits sig Unit) (f : PUnit → P F PUnit) (Q : PUnit → sProp 𝕄) :
    iprop(recs X K ∗ (dutyTok ER (dmaCell c i.sNum) 0 0 ∗ dutyTok ER (dmaCell (i.to.at c) i.rNum) 0 0)
        ∗ (M.view.loc (c : Thread nD τ) ↦[M.view.set]{q} fs) ∗ ((M'.view.loc (i.to.at c : Thread nD τ) ↦[M'.view.set]{fullShare} fd) ∗ R)
        ∗ owes (c : Thread nD τ) (O + owes1 c (.send i)) W)
      ⊢ iprop(((cred (tallyAt (dmaCell c i.sNum) () (amt i)) ∗ owes (c : Thread nD τ) O W) -∗ wpc c (f ⟨⟩) Q)
        -∗ wpc c (copyP (i.to.at c) M M' i h h' hs ht f) Q) := by
  iintro ⟨#HR, ⟨Ht1, Ht2⟩, Hs, Hd, HO⟩
  ihave H1 := (recs_dma X K c i.sNum (sNum_ge i)) $$ HR
  icases H1 with ⟨%κ₁, #HI1, #Hr1⟩
  ihave H2 := (recs_dma X K (i.to.at c) i.rNum (rNum_ge i)) $$ HR
  icases H2 with ⟨%κ₂, #HI2, #Hr2⟩
  iapply (Rounds.wp_send_landing_pointsTo_with 𝒱₀ ER (rd X) (c : Thread nD τ) none (κ₁ := κ₁) (κ₂ := κ₂)
    (r₁ := 0) (r₂ := 0) (d₁ := 0) (d₂ := 0) (fd := fd) (F := R) (c' := (i.to.at c : Thread nD τ)) (src := M) (dst := M') (sS := .dma i.sNum) (sem := .dma i.rNum)
    (by rw [duties_dma X c (info_s i)]; exact Finset.mem_singleton_self _)
    (by rw [duties_dma X (i.to.at c) (info_r i)]; exact Finset.mem_singleton_self _)
    () () (amt i) hN (amount_dma X c (info_s i) 0) (amount_dma X (i.to.at c) (info_r i) 0) O rfl (W := W)
    (by rw [pay_s, hb]; exact BI.Entails.refl _) (by rw [pay_r]; exact ha)) $$ [Ht1 Ht2 Hs Hd HO]
  isplitr; · iexact HI1
  isplitr; · iexact HI2
  isplitl [Hs]; · iexact Hs
  isplitl [Hd]; · iexact Hd
  isplitl [HO]; · iexact HO
  isplitl [Ht1]; · iexact Ht1
  isplitr; · iexact Hr1
  isplitl [Ht2]; · iexact Ht2
  iexact Hr2

end Cert.KernelIdeal.Run

end
-- ==== Proof.RunIdeal.Copies.lean ====
/-
# The copies, family by family

Each family of copies is put over one of the two cores: what the copy reads and overwrites as views, what its source
returns, and what arrives at the other device under that device's names.
-/
module

public import proofs.«01_k».proof.Proof.RunIdeal.Steps

@[expose] public section

set_option maxRecDepth 65536

noncomputable section

namespace Cert.KernelIdeal.Run

open Cert.KernelIdeal Cert.KernelIdeal.Gen Cert.AllReduce
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Con F) (K : Dev nD × Cell → ℕ)

/-- The copy `i` of device `c` runs from what the table says it takes to what the table says it gives. -/
def SendOk (c : Dev nD) (i : Tr) : Prop :=
  ∀ (O : CellTallies nD τ sig Unit) (W : Waits sig Unit) (f : PUnit → P F PUnit) (Q : PUnit → sProp 𝕄),
    iprop(recs X K ∗ ((dutyTok ER (dmaCell c i.sNum) 0 0 ∗ dutyTok ER (dmaCell (i.to.at c) i.rNum) 0 0)
          ∗ pcs X c (src i) ∗ pcs X c (dst i) ∗ pcs X c (extra i))
        ∗ owes (c : Thread nD τ) (O + owes1 c (.send i)) W)
      ⊢ iprop(((cred (tallyAt (dmaCell c i.sNum) () (amt i)) ∗ owes (c : Thread nD τ) O W) -∗ wpc c (f ⟨⟩) Q)
        -∗ wpc c (sendRun c i >>= f) Q)

/-- A full hold of some elements is three parts of it. -/
theorem share3 {ℓ : Loc nD τ sig} (I : Finset ℓ.ty.shape.Idx) (f : Buf (Elt F) ℓ) :
    (ℓ ↦[I]{fullShare} f : sProp 𝕄)
      = iprop((ℓ ↦[I]{fullShare.left} f) ∗ (ℓ ↦[I]{fullShare.right.left} f) ∗ (ℓ ↦[I]{fullShare.right.right} f)) := by
  have h (q : PosShare TreeShare) : (ℓ ↦[I]{q} f : sProp 𝕄) = iprop((ℓ ↦[I]{q.left} f) ∗ (ℓ ↦[I]{q.right} f)) :=
    BI.equiv_iff.mp ⟨(pointsTo_share (PosShare.mem_left_op_right q)).1, (pointsTo_share (PosShare.mem_left_op_right q)).2⟩
  rw [h fullShare, h fullShare.right]

theorem thirds_eq (d : Dev nD) (I : Finset S4096x1024.Idx) (f : Con F) :
    (oAt d I fullShare f : sProp 𝕄) = iprop(oAt d I fullShare.left f ∗ oAt d I fullShare.right.left f ∗ oAt d I fullShare.right.right f) :=
  share3 (ℓ := (d : Thread nD τ).loc cc0_stg1_0) I f

/-- A copy of finished elements between the two devices' result buffers. -/
theorem send_out (c : Dev nD) (i : Tr) (r : Rect S4096x1024) (hr : ∀ a, r.stride a = 1) (I : Finset S4096x1024.Idx) (hI : r.set = I)
    (q : PosShare TreeShare) (hN : (oM.slice r hr).view.dmaCredit = amt i)
    (hrun : (sendRun c i : P F PUnit) = sendO (trDev c i) (oM.slice r hr) i.sNum i.rNum)
    (hs : pcs X c (src i) ⊢ oAt c I q (finBuf X c))
    (hb : oAt c I q (finBuf X c) ⊢ pcs X c (back i))
    (hd : pcs X c (dst i) ⊢ iprop(∃ fd, oAt (i.to.at c) I fullShare fd))
    (ha : iprop(oAt (i.to.at c) I fullShare (finBuf X (i.to.at c)) ∗ pcs X c (extra i)) ⊢ pcs X (i.to.at c) (arr i)) :
    SendOk X K c i := by
  subst hI
  intro O W f Q
  rw [hrun, trDev_eq]
  have hset : (oM.slice r hr).view.set = r.set := View.set_slice_whole _ _
  iintro ⟨#HR, ⟨Ht, Hs, Hd, He⟩, HO⟩ Hk
  ihave Hs := hs $$ Hs
  ihave Hd := hd $$ Hd
  icases Hd with ⟨%fd, Hd⟩
  iapply (copy_back X K c (oM.slice r hr) (oM.slice r hr) i (View.wordExact_bits rfl) (View.wordExact_bits rfl) rfl ⟨⟨rfl, Or.inl rfl⟩, trivial⟩
    hN q (finBuf X c) fd (pcs X c (extra i))
    (by rw [hset]; exact hb)
    (by
      refine (sep_mono_left (Entails.of_eq ?_)).trans ha
      rw [hset]
      refine pointsTo_congr fun x hx => ?_
      rw [finBuf_at]
      exact write_read_self (oM.slice r hr) fd (finBuf X c) x (by rw [hset]; exact hx))
    O W f Q) $$ [Ht Hs Hd He HO]
  · rw [hset]
    isplitr; · iexact HR
    isplitl [Ht]; · iexact Ht
    isplitl [Hs]; · iexact Hs
    isplitl [Hd He]
    · isplitl [Hd]; · iexact Hd
      iexact He
    iexact HO
  iexact Hk

/-- One piece by itself. -/
theorem pcs_one (c : Dev nD) (p : Piece) : pcs X c [p] = pc X c p :=
  BI.equiv_iff.mp ⟨(sep_emp (PROP := sProp 𝕄)).1, (sep_emp (PROP := sProp 𝕄)).2⟩
theorem sep_emp_eq (P : sProp 𝕄) : iprop(P ∗ emp) = P :=
  BI.equiv_iff.mp ⟨(sep_emp (PROP := sProp 𝕄)).1, (sep_emp (PROP := sProp 𝕄)).2⟩

/-- A band of whatever contents. -/
theorem oPc_any (d : Dev nD) (b : Fin 32) (st : St) : oPc X d b .full st ⊢ iprop(∃ f, oAt d (bandSet b) fullShare f) := by
  cases st with
  | any => exact BI.Entails.refl _
  | acc => unfold oPc; iintro H; iexists _; iexact H
  | fin => unfold oPc; iintro H; iexists _; iexact H

theorem fin_full (r : Rel) (c : Dev nD) (q j : Fin 4) (g : Fin 2) :
    pc X c (.o r q j g .fin .full) = oAt (r.at c) (bandSet (bnd (r.at c) q j g)) fullShare (finBuf X (r.at c)) := rfl

/-- The three parts of a finished band. -/
theorem thirds_pcs (c : Dev nD) (q j : Fin 4) (g : Fin 2) :
    pcs X c (thirds .self q j g) = oAt c (bandSet (bnd c q j g)) fullShare (finBuf X c) := by
  rw [thirds_eq]
  show iprop(_ ∗ _ ∗ _ ∗ emp) = _
  rw [sep_emp_eq]
  rfl

theorem credit1 (off : Fin 2 → Nat) (h : ∀ a, off a + S128x1024.size a ≤ S4096x1024.size a) : (rows oM off h).view.dmaCredit = N1 := rfl
theorem credit2 (c : Dev nD) : (dqM c).view.dmaCredit = N2 := rfl

/-- A copy of one finished band into one band of the same place. -/
theorem send_band (c : Dev nD) (i : Tr) (off : Fin 2 → Nat) (hi : ∀ a, off a + S128x1024.size a ≤ S4096x1024.size a)
    (b : Fin 32) (hoff : off = ![128 * b.val, 0]) (q : PosShare TreeShare) (hN : N1 = amt i)
    (hrun : (sendRun c i : P F PUnit) = sendO (trDev c i) (rows oM off hi) i.sNum i.rNum)
    (hs : pcs X c (src i) = oAt c (bandSet b) q (finBuf X c)) (hb : back i = src i)
    (st : St) (hd : pcs X c (dst i) = oPc X (i.to.at c) b .full st)
    (ha : iprop(oAt (i.to.at c) (bandSet b) fullShare (finBuf X (i.to.at c)) ∗ pcs X c (extra i)) ⊢ pcs X (i.to.at c) (arr i)) :
    SendOk X K c i :=
  send_out X K c i _ (fun _ => rfl) (bandSet b) (rect_set off hi b hoff) q ((credit1 off hi).trans hN) hrun
    (Entails.of_eq hs) (by rw [hb, hs]) (by rw [hd]; exact oPc_any X _ _ _) ha

/-- A finished band by itself at the other device. -/
theorem arr_one (c d : Dev nD) (b b' : Fin 32) (h : b' = b) (p : Piece) (hp : pc X d p = oAt d (bandSet b') fullShare (finBuf X d)) :
    iprop(oAt d (bandSet b) fullShare (finBuf X d) ∗ pcs X c []) ⊢ pcs X d [p] := by
  subst h
  rw [pcs_one, hp]
  exact (sep_emp (PROP := sProp 𝕄)).1

theorem ok_xq (c : Dev nD) (j : Fin 4) (g : Fin 2) : SendOk X K c (.xq j g) :=
  send_band X K c (.xq j g) _ (pubOff_inb c j g) (bnd c 0 j g) (pubOff_eq c j g) fullShare.right.left rfl rfl
    (pcs_one X c (.o .self 0 j g .fin .s2)) rfl .any
    ((pcs_one X c (.o .px 1 j g .any .full)).trans (congrArg (fun b => oPc X (px c) b .full .any) (bnd_px c j g)))
    (arr_one X c (px c) _ _ (bnd_px c j g) (.o .self 1 j g .fin .full) rfl)

theorem ok_yq (c : Dev nD) (j : Fin 4) (g : Fin 2) : SendOk X K c (.yq j g) :=
  send_band X K c (.yq j g) _ (pubOff_inb c j g) (bnd c 0 j g) (pubOff_eq c j g) fullShare.right.right rfl rfl
    (pcs_one X c (.o .self 0 j g .fin .s3)) rfl .any
    ((pcs_one X c (.o .py 2 j g .any .full)).trans (congrArg (fun b => oPc X (py c) b .full .any) (bnd_py c j g)))
    (arr_one X c (py c) _ _ (bnd_py c j g) (.o .self 2 j g .fin .full) rfl)

theorem ok_xf (c : Dev nD) (j : Fin 3) : SendOk X K c (.xf j) :=
  send_band X K c (.xf j) _ (xfOff_inb c j) (bnd c 2 j.castSucc 0) (xfOff_eq c j) fullShare rfl rfl
    (pcs_one X c (.o .self 2 j.castSucc 0 .fin .full)) rfl .any
    ((pcs_one X c (.o .px 3 j.castSucc 0 .any .full)).trans (congrArg (fun b => oPc X (px c) b .full .any) (bnd_px3 c j.castSucc 0)))
    (arr_one X c (px c) _ _ (bnd_px3 c j.castSucc 0) (.o .self 3 j.castSucc 0 .fin .full) rfl)

theorem ok_yf (c : Dev nD) (j : Fin 3) : SendOk X K c (.yf j) :=
  send_band X K c (.yf j) _ (yfOff_inb c j) (bnd c 1 j.castSucc 1) (yfOff_eq c j) fullShare rfl rfl
    (pcs_one X c (.o .self 1 j.castSucc 1 .fin .full)) rfl .any
    ((pcs_one X c (.o .py 3 j.castSucc 1 .any .full)).trans (congrArg (fun b => oPc X (py c) b .full .any) (bnd_py3 c j.castSucc 1)))
    (arr_one X c (py c) _ _ (bnd_py3 c j.castSucc 1) (.o .self 3 j.castSucc 1 .fin .full) rfl)

/-- The two bands of the chunk that goes to the diagonal device. -/
theorem dq_bands (c : Dev nD) : Disjoint (bandSet (bnd c 0 3 0)) (bandSet (bnd c 0 3 1)) :=
  disjoint_bands (fun h => by have := bnd_inj c (a₁ := (0, 3, 0)) (a₂ := (0, 3, 1)) h; revert this; decide)

theorem dq_union (c d : Dev nD) (q : PosShare TreeShare) (f : Con F) :
    (oAt d (bandSet (bnd c 0 3 0) ∪ bandSet (bnd c 0 3 1)) q f : sProp 𝕄)
      = iprop(oAt d (bandSet (bnd c 0 3 0)) q f ∗ oAt d (bandSet (bnd c 0 3 1)) q f) :=
  BI.equiv_iff.mp ⟨(pointsTo_union (dq_bands c)).1, (pointsTo_union (dq_bands c)).2⟩

theorem ok_dq (c : Dev nD) : SendOk X K c .dq := by
  refine send_out X K c _ _ (fun _ => rfl) (bandSet (bnd c 0 3 0) ∪ bandSet (bnd c 0 3 1))
    (rect2_set _ (k0_off11_inb c) _ _ (dqOff_eq c) (by revert c; decide +kernel)) fullShare.left (credit2 c) rfl ?_ ?_ ?_ ?_
  · show iprop(_ ∗ _ ∗ emp) ⊢ _
    rw [sep_emp_eq, dq_union]
    exact BI.Entails.refl _
  · show _ ⊢ iprop(_ ∗ _ ∗ emp)
    rw [sep_emp_eq, dq_union]
    exact BI.Entails.refl _
  · show iprop(oPc X (pd c) (bnd (pd c) 3 3 0) .full .any ∗ oPc X (pd c) (bnd (pd c) 3 3 1) .full .any ∗ emp) ⊢ _
    rw [sep_emp_eq, bnd_pd3, bnd_pd3]
    unfold oPc
    iintro ⟨⟨%f, H1⟩, ⟨%g, H2⟩⟩
    iexists _
    iapply (pointsTo_join (dq_bands c))
    isplitl [H1]; · iexact H1
    iexact H2
  · show iprop(_ ∗ emp) ⊢ iprop(oPc X (pd c) (bnd (pd c) 3 3 0) .full .fin ∗ oPc X (pd c) (bnd (pd c) 3 3 1) .full .fin ∗ emp)
    rw [sep_emp_eq, sep_emp_eq, bnd_pd3, bnd_pd3, dq_union]
    exact BI.Entails.refl _

theorem nxt_nxt (c : Dev nD) : nxt (nxt c) = prv (prv c) := by revert c; decide

/-- What one all-gather copy takes from the next device, and what arrives there. -/
theorem ag_dst (c : Dev nD) (s : Fin 3) (g : Fin 2) :
    ∃ st, pcs X c (dst (.ag s g)) = oPc X (nxt c) (bnd c 0 (agJ s) g) .full st := by
  rw [← bnd_nxt]
  fin_cases s
  · exact ⟨.any, pcs_one X c (.o .nxt 0 1 g .any .full)⟩
  · exact ⟨.acc, pcs_one X c (.o .nxt 0 2 g .acc .full)⟩
  · exact ⟨.acc, pcs_one X c (.o .nxt 0 3 g .acc .full)⟩

theorem ag_arr (c : Dev nD) (s : Fin 3) (g : Fin 2) :
    iprop(oAt (nxt c) (bandSet (bnd c 0 (agJ s) g)) fullShare (finBuf X (nxt c)) ∗ pcs X c (extra (.ag s g)))
      ⊢ pcs X (nxt c) (arr (.ag s g)) := by
  rw [← bnd_nxt]
  fin_cases s
  · show iprop(oAt (nxt c) (bandSet (bnd (nxt c) 0 1 g)) fullShare (finBuf X (nxt c)) ∗ pcs X c [.o .prv 0 3 g .acc .full, .o .prv2 0 2 g .acc .full])
      ⊢ pcs X (nxt c) (thirds .self 0 1 g ++ [.o .prv2 0 3 g .acc .full, .o .nxt 0 2 g .acc .full])
    rw [pcs_append, thirds_pcs]
    simp only [pcs, pc, Rel.at, prv_nxt, nxt_nxt]
    exact BI.Entails.refl _
  · show iprop(oAt (nxt c) (bandSet (bnd (nxt c) 0 2 g)) fullShare (finBuf X (nxt c)) ∗ pcs X c [.o .prv2 0 3 g .acc .full])
      ⊢ pcs X (nxt c) (thirds .self 0 2 g ++ [.o .nxt 0 3 g .acc .full])
    rw [pcs_append, thirds_pcs]
    simp only [pcs, pc, Rel.at, prv_nxt, nxt_nxt]
    exact BI.Entails.refl _
  · show iprop(oAt (nxt c) (bandSet (bnd (nxt c) 0 3 g)) fullShare (finBuf X (nxt c)) ∗ emp) ⊢ pcs X (nxt c) (thirds .self 0 3 g)
    rw [sep_emp_eq, thirds_pcs]

theorem ok_ag (c : Dev nD) (s : Fin 3) (g : Fin 2) : SendOk X K c (.ag s g) := by
  obtain ⟨st, hd⟩ := ag_dst X c s g
  exact send_band X K c (.ag s g) _ (pubOff_inb c (agJ s) g) (bnd c 0 (agJ s) g) (pubOff_eq c (agJ s) g) fullShare.left rfl rfl
    (pcs_one X c (.o .self 0 (agJ s) g .fin .s1)) rfl st hd (ag_arr X c s g)

/-! ## The reduce-scatter's copies -/

/-- What lands in a slot is the sender's partial sum. -/
theorem landed (c : Dev nD) (s : Fin 3) (g : Fin 2) (M : Memref sig .tc .vmem S128x1024 .f32)
    (fs : M.view.ty.Contents (Elt F)) (fd : (cmSlot (slot s g)).view.ty.Contents (Elt F))
    (hM : ∀ r l, M.view.read (Elt F) fs (ix2 r l) = accBuf X c (ix2 (rowOf (bnd c 0 (rsJ s) g) r) l)) :
    ∀ x ∈ slotSet (slot s g),
      (cmSlot (slot s g)).view.write (Elt F) fd (M.view.read (Elt F) fs) Finset.univ x = commBuf X (nxt c) x := by
  intro x hx
  obtain ⟨r, l, rfl⟩ := exists_of_mem_slot hx
  rw [write_slot, hM, commBuf_slot, prv_nxt, bnd_nxt_acc]

/-- A slot of whatever contents is what a copy into it needs; a landed slot what it gives. -/
theorem cm_got (c : Dev nD) (k : Fin 6) : pc X c (.cm .self k true) = cAt c (slotSet k) (commBuf X c) := rfl

theorem ok_rs0 (c : Dev nD) (g : Fin 2) : SendOk X K c (.rs 0 g) := by
  intro O W f Q
  show _ ⊢ iprop(_ -∗ wpc c (sendC (trDev c (.rs 0 g)) (rows xM (rsOff c 0 g) (k0_off1_inb c 0 g)) (slot 0 g) (Tr.rs 0 g).sNum (Tr.rs 0 g).rNum >>= f) Q)
  rw [trDev_eq]
  have hset : (rows xM (rsOff c 0 g) (k0_off1_inb c 0 g)).view.set = bandSet (bnd c 0 1 g) := xRows_set _ _ _ (rsOff_eq c 0 g)
  have hset' : (cmSlot (slot 0 g)).view.set = slotSet (slot 0 g) := cmSlot_set _
  show iprop(_ ∗ (_ ∗ (xAt c (bandSet (bnd c 0 1 g)) (X c) ∗ emp) ∗ ((∃ fd, cAt (nxt c) (slotSet (slot 0 g)) fd) ∗ emp) ∗ emp) ∗ _) ⊢ _
  iintro ⟨#HR, ⟨Ht, ⟨Hs, -⟩, ⟨⟨%fd, Hd⟩, -⟩, -⟩, HO⟩ Hk
  iapply (copy_back X K c (rows xM (rsOff c 0 g) (k0_off1_inb c 0 g)) (cmSlot (slot 0 g)) (.rs 0 g) (View.wordExact_bits rfl)
    ((View.wordExact_bits rfl).reshape _ _) rfl ⟨⟨rfl, Or.inl rfl⟩, trivial⟩
    rfl fullShare (X c) fd iprop(emp)
    (by
      rw [hset]
      show _ ⊢ iprop(xAt c (bandSet (bnd c 0 1 g)) (X c) ∗ emp)
      rw [sep_emp_eq])
    (by
      show _ ⊢ iprop(cAt (nxt c) (slotSet (slot 0 g)) (commBuf X (nxt c)) ∗ emp)
      refine sep_mono_left (Entails.of_eq ?_)
      rw [hset']
      refine pointsTo_congr fun x hx => ?_
      refine landed X c 0 g _ _ _ (fun r l => ?_) x hx
      rw [View.read_apply]
      rw [acc_eq_part X (deep_rs c 0 g) _ (row_mem_band _ r l)]
      show X c ((Rect.unit (s := S4096x1024) (rsOff c 0 g) S128x1024.size (k0_off1_inb c 0 g)).emb (ix2 r l)) = _
      rw [rect_emb _ _ _ (rsOff_eq c 0 g)]
      rfl)
    O W f Q) $$ [Ht Hs Hd HO]
  · rw [hset, hset']
    isplitr; · iexact HR
    isplitl [Ht]; · iexact Ht
    isplitl [Hs]; · iexact Hs
    isplitl [Hd]
    · isplitl [Hd]; · iexact Hd
      iempintro
    iexact HO
  iexact Hk

theorem ok_rs' (c : Dev nD) (s : Fin 3) (g : Fin 2) (hb : back (.rs s g) = [])
    (hrun : (sendRun c (.rs s g) : P F PUnit) = sendC (trDev c (.rs s g)) (rows oM (rsOff c s g) (k0_off1_inb c s g)) (slot s g) (Tr.rs s g).sNum (Tr.rs s g).rNum)
    (hs : src (.rs s g) = [.o .self 0 (rsJ s) g .acc .full])
    (ha : iprop((cAt (nxt c) (slotSet (slot s g)) (commBuf X (nxt c)) ∗ pcs X c (extra (.rs s g)))
        ∗ oAt c (bandSet (bnd c 0 (rsJ s) g)) fullShare (accBuf X c)) ⊢ pcs X (nxt c) (arr (.rs s g))) : SendOk X K c (.rs s g) := by
  intro O W f Q
  rw [hrun, trDev_eq, hs, pcs_one]
  have hset : (rows oM (rsOff c s g) (k0_off1_inb c s g)).view.set = bandSet (bnd c 0 (rsJ s) g) := oRows_set _ _ _ (rsOff_eq c s g)
  have hset' : (cmSlot (slot s g)).view.set = slotSet (slot s g) := cmSlot_set _
  show iprop(_ ∗ (_ ∗ oAt c (bandSet (bnd c 0 (rsJ s) g)) fullShare (accBuf X c) ∗ ((∃ fd, cAt (nxt c) (slotSet (slot s g)) fd) ∗ emp) ∗ _) ∗ _) ⊢ _
  iintro ⟨#HR, ⟨Ht, Hs, ⟨⟨%fd, Hd⟩, -⟩, He⟩, HO⟩ Hk
  iapply (copy_give X K c (rows oM (rsOff c s g) (k0_off1_inb c s g)) (cmSlot (slot s g)) (.rs s g) (View.wordExact_bits rfl)
    ((View.wordExact_bits rfl).reshape _ _) rfl ⟨⟨rfl, Or.inl rfl⟩, trivial⟩
    rfl fullShare (accBuf X c) fd (pcs X c (extra (.rs s g))) hb
    (by
      rw [hset, hset']
      refine (sep_mono_left (sep_mono_left (Entails.of_eq ?_))).trans ha
      refine pointsTo_congr fun x hx => ?_
      refine landed X c s g _ _ _ (fun r l => ?_) x hx
      rw [View.read_apply]
      show accBuf X c ((Rect.unit (s := S4096x1024) (rsOff c s g) S128x1024.size (k0_off1_inb c s g)).emb (ix2 r l)) = _
      rw [rect_emb _ _ _ (rsOff_eq c s g)])
    O W f Q) $$ [Ht Hs Hd He HO]
  · rw [hset, hset']
    isplitr; · iexact HR
    isplitl [Ht]; · iexact Ht
    isplitl [Hs]; · iexact Hs
    isplitl [Hd He]
    · isplitl [Hd]; · iexact Hd
      iexact He
    iexact HO
  iexact Hk

theorem sep_swap (P Q R : sProp 𝕄) : iprop((P ∗ Q) ∗ R) ⊢ iprop(P ∗ R ∗ Q) := by
  iintro ⟨⟨H1, H2⟩, H3⟩
  isplitl [H1]; · iexact H1
  isplitl [H3]; · iexact H3
  iexact H2

theorem ok_rs (c : Dev nD) (s : Fin 3) (g : Fin 2) : SendOk X K c (.rs s g) := by
  fin_cases s
  · exact ok_rs0 X K c g
  · refine ok_rs' X K c 1 g rfl rfl rfl ?_
    show iprop((_ ∗ emp) ∗ _) ⊢ pcs X (nxt c) [.cm .self (slot 1 g) true, .o .prv 0 2 g .acc .full]
    simp only [pcs, pc, Rel.at, prv_nxt, sep_emp_eq]
    exact BI.Entails.refl _
  · refine ok_rs' X K c 2 g rfl rfl rfl ?_
    show iprop((_ ∗ pcs X c [.o .prv 0 2 g .acc .full]) ∗ _)
      ⊢ pcs X (nxt c) [.cm .self (slot 2 g) true, .o .prv 0 3 g .acc .full, .o .prv2 0 2 g .acc .full]
    simp only [pcs, pc, Rel.at, prv_nxt, sep_emp_eq]
    exact sep_swap _ _ _

/-- Every copy of the table. -/
theorem send_ok (c : Dev nD) (i : Tr) : SendOk X K c i := by
  cases i with
  | rs s g => exact ok_rs X K c s g
  | ag s g => exact ok_ag X K c s g
  | xq j g => exact ok_xq X K c j g
  | yq j g => exact ok_yq X K c j g
  | xf j => exact ok_xf X K c j
  | yf j => exact ok_yf X K c j
  | dq => exact ok_dq X K c

end Cert.KernelIdeal.Run

end
-- ==== Proof.RunIdeal.Exec.lean ====
/-
# The list of operations, run

One accumulation, then any operation in the form "takes `pre`, gives `post`", then the whole list by induction along the
table's own run.
-/
module

public import proofs.«01_k».proof.Proof.RunIdeal.Copies

@[expose] public section

set_option maxRecDepth 65536

noncomputable section

namespace Cert.KernelIdeal.Run

open Cert.KernelIdeal Cert.KernelIdeal.Gen Cert.AllReduce
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Con F) (K : Dev nD × Cell → ℕ)

/-- The sum that step `s` stores, element by element. -/
theorem acc_value (c : Dev nD) (s : Fin 3) (g : Fin 2) (r : Fin 128) (l : Fin 1024) :
    accPay ((xM.access (accRect c s g)).read (Elt F) (X c)) ((cM.access (slotRect (slot s g))).read (Elt F) (commBuf X c)) (ix2 r l)
      = accBuf X c (ix2 (rowOf (bnd c 0 (accJ s) g) r) l) := by
  have hp : deep (prv c) (bnd c 0 (accJ s) g) = s.val := by
    have h := deep_rs (prv c) s g
    rwa [← bnd_nxt_acc, nxt_prv] at h
  have h1 : shapeCast S128x1024 ((xM.access (accRect c s g)).read (Elt F) (X c)) shapeCasts_S128x1024_S128x1024 (ix2 r l)
      = X c (ix2 (rowOf (bnd c 0 (accJ s) g) r) l) := by
    have hv : ∀ v : Vec F S128x1024 .f32, shapeCast S128x1024 v shapeCasts_S128x1024_S128x1024 = v := fun v => shapeCast_self v _
    refine (congrFun (hv _) _).trans ?_
    show X c ((accRect c s g).emb (ix2 r l)) = _
    rw [rect_emb _ _ _ (accOff_eq c s g)]
  have h2 : shapeCast S128x1024 ((cM.access (slotRect (slot s g))).read (Elt F) (commBuf X c)) shapeCasts_S1x128x1024_S128x1024 (ix2 r l)
      = part X s.val (prv c) (ix2 (rowOf (bnd c 0 (accJ s) g) r) l) := by
    rw [shapeCast, reshapeEquiv_ix2_1ab]
    show commBuf X c ((slotRect (slot s g)).emb (ix3 (0 : Fin 1) r l)) = _
    rw [slotRect_emb, commBuf_slot, acc_eq_part X hp _ (row_mem_band _ r l)]
  rw [acc_eq_part X (deep_acc c s g) _ (row_mem_band _ r l)]
  show (FloatOps.addf (shapeCast S128x1024 _ _ (ix2 r l) : F .f32) (shapeCast S128x1024 _ _ (ix2 r l) : F .f32) : F .f32) = _
  rw [h1, h2]
  rfl

/-- A store into a band, element by element. -/
theorem write_rows (off : Fin 2 → Nat) (h : ∀ a, off a + S128x1024.size a ≤ S4096x1024.size a) (b : Fin 32)
    (hb : off = ![128 * b.val, 0]) (f : Con F) (w : Vec F S128x1024 .f32) (r : Fin 128) (l : Fin 1024) :
    (oM.access (Rect.unit (s := S4096x1024) off S128x1024.size h)).write (Elt F) f w Finset.univ (ix2 (rowOf b r) l) = w (ix2 r l) := by
  rw [← rect_emb off h b hb r l]
  exact View.write_emb_of_mem (v := oM.access (Rect.unit (s := S4096x1024) off S128x1024.size h)) f w (Finset.mem_univ (ix2 r l))

/-- What the step leaves in its rows. -/
theorem acc_written (c : Dev nD) (s : Fin 3) (g : Fin 2) (f : Con F) :
    ∀ i ∈ bandSet (bnd c 0 (accJ s) g), (oM.access (accRect c s g)).write (Elt F) f
      (accPay ((xM.access (accRect c s g)).read (Elt F) (X c)) ((cM.access (slotRect (slot s g))).read (Elt F) (commBuf X c))) Finset.univ i
      = accBuf X c i := by
  intro i hi
  obtain ⟨r, l, rfl⟩ := exists_of_mem_band hi
  exact (write_rows _ _ _ (accOff_eq c s g) f _ r l).trans (acc_value X c s g r l)

theorem acc_rows (c : Dev nD) (s : Fin 3) (g : Fin 2) : (accRect c s g).set = bandSet (bnd c 0 (accJ s) g) :=
  rect_set _ _ _ (accOff_eq c s g)

/-- One accumulation. -/
theorem acc_run (c : Dev nD) (s : Fin 3) (g : Fin 2) (f : PUnit → P F PUnit) (Q : PUnit → sProp 𝕄) :
    iprop(xAt c (bandSet (bnd c 0 (accJ s) g)) (X c) ∗ cAt c (slotSet (slot s g)) (commBuf X c)
        ∗ (∃ fd, oAt c (bandSet (bnd c 0 (accJ s) g)) fullShare fd))
      ⊢ iprop(((xAt c (bandSet (bnd c 0 (accJ s) g)) (X c) ∗ cAt c (slotSet (slot s g)) (commBuf X c)
          ∗ oAt c (bandSet (bnd c 0 (accJ s) g)) fullShare (accBuf X c)) -∗ wpc c (f ⟨⟩) Q)
        -∗ wpc c (accRun c s g >>= f) Q) := by
  have hx : (xM.access (accRect c s g)).set ⊆ bandSet (bnd c 0 (accJ s) g) :=
    ((View.set_slice_whole _ _).trans (acc_rows c s g)).subset
  have hc : (cM.access (slotRect (slot s g))).set ⊆ slotSet (slot s g) :=
    ((View.set_slice_whole _ _).trans (slotRect_set _)).subset
  have ho : (oM.access (accRect c s g)).set ⊆ bandSet (bnd c 0 (accJ s) g) :=
    ((View.set_slice_whole _ _).trans (acc_rows c s g)).subset
  unfold accRun Prog.lift
  simp only [Prog.bind_op, Prog.bind_ret, Prog.bind_assoc]
  iintro ⟨Hx, Hc, ⟨%fd, Ho⟩⟩ Hk
  iapply (wp_load_rect 𝒱₀ (c : Thread nD τ) none Set.univ hx) $$ Hx; iintro Hx
  iapply (wp_load_rect 𝒱₀ (c : Thread nD τ) none Set.univ hc) $$ Hc; iintro Hc
  iapply (wp_load_rect 𝒱₀ (c : Thread nD τ) none Set.univ ho) $$ Ho; iintro Ho
  iapply (wp_store 𝒱₀ (c : Thread nD τ) none Set.univ (m := oM) (r := accRect c s g) (Mk := Finset.univ) ho) $$ Ho; iintro Ho
  iapply Hk
  isplitl [Hx]; · iexact Hx
  isplitl [Hc]; · iexact Hc
  iapply (Entails.of_eq (pointsTo_congr (acc_written X c s g fd))) $$ Ho

/-- The pieces of an accumulation. -/
theorem step_acc (c : Dev nD) (s : Fin 3) (g : Fin 2) (f : PUnit → P F PUnit) (Q : PUnit → sProp 𝕄) :
    pcs X c (accPre s g) ⊢ iprop((pcs X c (accPost s g) -∗ wpc c (f ⟨⟩) Q) -∗ wpc c (accRun c s g >>= f) Q) := by
  have hpost : iprop(xAt c (bandSet (bnd c 0 (accJ s) g)) (X c) ∗ cAt c (slotSet (slot s g)) (commBuf X c)
      ∗ oAt c (bandSet (bnd c 0 (accJ s) g)) fullShare (accBuf X c)) ⊢ pcs X c (accPost s g) := by
    unfold accPost
    rw [pcs_append]
    show iprop(_ ∗ _ ∗ _) ⊢ iprop((xAt c (bandSet (bnd c 0 (accJ s) g)) (X c) ∗ cAt c (slotSet (slot s g)) (commBuf X c) ∗ emp) ∗ _)
    rw [sep_emp_eq, ← sep_assoc_eq]
    refine sep_mono_right ?_
    fin_cases s
    · exact Entails.of_eq (pcs_one X c (.o .self 0 2 g .acc .full)).symm
    · exact Entails.of_eq (pcs_one X c (.o .self 0 3 g .acc .full)).symm
    · refine Entails.of_eq (Eq.trans ?_ (thirds_pcs X c 0 0 g).symm)
      exact pointsTo_congr (acc_eq_fin X c g)
  show iprop(xAt c (bandSet (bnd c 0 (accJ s) g)) (X c) ∗ cAt c (slotSet (slot s g)) (commBuf X c)
        ∗ (∃ fd, oAt c (bandSet (bnd c 0 (accJ s) g)) fullShare fd) ∗ emp) ⊢ _
  rw [sep_emp_eq]
  iintro H Hk
  iapply (acc_run X c s g f Q) $$ H
  iintro H
  iapply Hk
  iapply hpost
  iexact H

theorem owed_zero (c : Dev nD) (o : Op) (l : List Op) (h : owes1 c o = 0) : owed c (o :: l) = owed c l := by
  show owed c l + owes1 c o = _
  rw [h, add_zero]

/-- Any operation: it runs from what it takes, and gives what it gives. -/
theorem step_op (c : Dev nD) (o : Op) (l : List Op) (hw : waitOk o l = true) (f : PUnit → P F PUnit) (Q : PUnit → sProp 𝕄) :
    iprop(recs X K ∗ holds X c o.pre ∗ (∃ W, owes (c : Thread nD τ) (owed c (o :: l)) W))
      ⊢ iprop(((holds X c o.post ∗ (∃ W, owes (c : Thread nD τ) (owed c l) W)) -∗ wpc c (f ⟨⟩) Q)
        -∗ wpc c (opRun c o >>= f) Q) := by
  cases o with
  | sig k =>
    show iprop(recs X K ∗ (dutyTok ER (barCell ((peer k).at c)) 0 k ∗ holds X c ((handed k .self).map .p)) ∗ _) ⊢ iprop(((emp ∗ _) -∗ _) -∗ _)
    rw [holds_pcs, emp_sep_eq]
    iintro ⟨#HR, H, ⟨%W, HO⟩⟩ Hk
    iapply (step_sig X K c k (owed c l) W f Q) $$ [H HO]
    · isplitr; · iexact HR
      isplitl [H]; · iexact H
      iexact HO
    iintro HO
    iapply Hk
    iexists _; iexact HO
  | bar =>
    rw [owed_zero c .bar l rfl]
    show iprop(recs X K ∗ (atPos ER (barCell c) 0 ∅ 0 ∗ cred (tallyAt (barCell c) () 5) ∗ emp) ∗ (∃ W, owes (c : Thread nD τ) (owed c l) W))
      ⊢ iprop((((atPos ER (barCell c) (0 + 1) ∅ 0 ∗ holds X c (barGives.map .p)) ∗ _) -∗ _) -∗ _)
    rw [holds_pcs, sep_emp_eq]
    iintro ⟨#HR, H, ⟨%W, HO⟩⟩ Hk
    iapply (step_bar X K c l hw W f Q) $$ [H HO]
    · isplitr; · iexact HR
      isplitl [H]; · iexact H
      iexact HO
    iintro ⟨H, HO⟩
    iapply Hk
    isplitl [H]; · iexact H
    iexists _; iexact HO
  | send i =>
    show iprop(recs X K ∗ (dutyTok ER (dmaCell c i.sNum) 0 0 ∗ dutyTok ER (dmaCell (i.to.at c) i.rNum) 0 0
        ∗ holds X c ((src i ++ dst i ++ extra i).map .p)) ∗ (∃ W, owes (c : Thread nD τ) (owed c l + owes1 c (.send i)) W))
      ⊢ iprop((((cred (tallyAt (dmaCell c i.sNum) () (amt i)) ∗ emp) ∗ _) -∗ _) -∗ _)
    rw [holds_pcs, sep_emp_eq, pcs_append, pcs_append]
    iintro ⟨#HR, ⟨Ht, Ht', ⟨Hs, Hd⟩, He⟩, ⟨%W, HO⟩⟩ Hk
    iapply (send_ok X K c i (owed c l) W f Q) $$ [Ht Ht' Hs Hd He HO]
    · isplitr; · iexact HR
      isplitr [HO]
      · isplitl [Ht Ht']
        · isplitl [Ht]; · iexact Ht
          iexact Ht'
        isplitl [Hs]; · iexact Hs
        isplitl [Hd]; · iexact Hd
        iexact He
      iexact HO
    iintro ⟨Hc, HO⟩
    iapply Hk
    isplitl [Hc]; · iexact Hc
    iexists _; iexact HO
  | waitS i =>
    rw [owed_zero c (.waitS i) l rfl]
    show iprop(recs X K ∗ (atPos ER (dmaCell c i.sNum) 0 ∅ 0 ∗ cred (tallyAt (dmaCell c i.sNum) () (amt i)) ∗ emp) ∗ (∃ W, owes (c : Thread nD τ) (owed c l) W))
      ⊢ iprop((((atPos ER (dmaCell c i.sNum) (0 + 1) ∅ 0 ∗ holds X c ((back i).map .p)) ∗ _) -∗ _) -∗ _)
    rw [holds_pcs, sep_emp_eq]
    iintro ⟨#HR, H, ⟨%W, HO⟩⟩ Hk
    iapply (step_waitS X K c i l hw W f Q) $$ [H HO]
    · isplitr; · iexact HR
      isplitl [H]; · iexact H
      iexact HO
    iintro ⟨H, HO⟩
    iapply Hk
    isplitl [H]; · iexact H
    iexists _; iexact HO
  | waitR i =>
    rw [owed_zero c (.waitR i) l rfl]
    show iprop(recs X K ∗ (atPos ER (dmaCell c i.rNum) 0 ∅ 0 ∗ cred (tallyAt (dmaCell c i.rNum) () (amt i)) ∗ emp) ∗ (∃ W, owes (c : Thread nD τ) (owed c l) W))
      ⊢ iprop((((atPos ER (dmaCell c i.rNum) (0 + 1) ∅ 0 ∗ holds X c ((arr i).map .p)) ∗ _) -∗ _) -∗ _)
    rw [holds_pcs, sep_emp_eq]
    iintro ⟨#HR, H, ⟨%W, HO⟩⟩ Hk
    iapply (step_waitR X K c i l hw W f Q) $$ [H HO]
    · isplitr; · iexact HR
      isplitl [H]; · iexact H
      iexact HO
    iintro ⟨H, HO⟩
    iapply Hk
    isplitl [H]; · iexact H
    iexists _; iexact HO
  | acc s g =>
    rw [owed_zero c (.acc s g) l rfl]
    show iprop(recs X K ∗ holds X c ((accPre s g).map .p) ∗ (∃ W, owes (c : Thread nD τ) (owed c l) W))
      ⊢ iprop(((holds X c ((accPost s g).map .p) ∗ _) -∗ _) -∗ _)
    rw [holds_pcs, holds_pcs]
    iintro ⟨#HR, H, HO⟩ Hk
    iapply (step_acc X c s g f Q) $$ H
    iintro H
    iapply Hk
    isplitl [H]; · iexact H
    iexact HO

/-- A list runs from any holding the table runs it from, to what the table says is left. -/
theorem run_list (c : Dev nD) (Q : PUnit → sProp 𝕄) : ∀ (l : List Op) (S S' : List Res), exec l S = some S' →
    iprop(recs X K ∗ holds X c S ∗ (∃ W, owes (c : Thread nD τ) (owed c l) W))
      ⊢ iprop(((holds X c S' ∗ (∃ W, owes (c : Thread nD τ) 0 W)) -∗ |={Set.univ}=> Q ⟨⟩) -∗ wpc c (listRun c l) Q)
  | [], S, S', h => by
    cases h
    show _ ⊢ iprop(_ -∗ wpc c (.ret ⟨⟩) Q)
    unfold wpc
    rw [wp_ret]
    iintro ⟨#HR, H⟩ Hk
    iapply Hk
    iexact H
  | o :: l, S, S', h => by
    unfold exec at h
    split at h
    · next hw =>
      rw [Option.bind_eq_some_iff] at h
      obtain ⟨S₁, h₁, h₂⟩ := h
      have i1 := takeAll_sound X c o.pre S S₁ h₁
      have i2 := run_list c Q l _ _ h₂
      have i3 := step_op X K c o l hw (fun _ => listRun c l) Q
      show _ ⊢ iprop(_ -∗ wpc c (opRun c o >>= fun _ => listRun c l) Q)
      iintro ⟨#HR, H, HO⟩ Hk
      ihave H := i1 $$ H
      icases H with ⟨Hp, H⟩
      iapply i3 $$ [Hp HO]
      · isplitr; · iexact HR
        isplitl [Hp]; · iexact Hp
        iexact HO
      iintro ⟨Hp, HO⟩
      iapply i2 $$ [Hp H HO]
      · isplitr; · iexact HR
        isplitl [Hp H]
        · rw [holds_append]
          isplitl [Hp]; · iexact Hp
          iexact H
        iexact HO
      iexact Hk
    · cases h

/-- The whole list, from the table's start to the table's end. -/
theorem run_all (c : Dev nD) (Q : PUnit → sProp 𝕄) :
    iprop(recs X K ∗ holds X c start ∗ (∃ W, owes (c : Thread nD τ) (owed c prog) W))
      ⊢ iprop(((holds X c finish ∗ (∃ W, owes (c : Thread nD τ) 0 W)) -∗ |={Set.univ}=> Q ⟨⟩) -∗ wpc c (listRun c prog) Q) := by
  have h := runAll_eq
  unfold runAll at h
  rw [Option.bind_eq_some_iff] at h
  obtain ⟨S, h₁, h₂⟩ := h
  have i1 := takeAll_sound X c finish S [] h₂
  iintro H Hk
  iapply (run_list X K c Q prog start S h₁) $$ H
  iintro ⟨H, HO⟩
  iapply Hk
  ihave H := i1 $$ H
  icases H with ⟨H, -⟩
  isplitl [H]; · iexact H
  iexact HO

end Cert.KernelIdeal.Run

end
-- ==== Proof.RunIdeal.Body.lean ====
/-
# The body on one device

The buffers a device is handed are cut into the table's pieces, its rights and places are listed as the table lists them,
the table is run, and the pieces come together again: the result buffer whole, every counter at zero.
-/
module

public import proofs.«01_k».proof.Proof.RunIdeal.Exec

public import Idealize.ShloMosaic.Lib.Pipeline.BigSepL

@[expose] public section

set_option maxRecDepth 65536

noncomputable section

namespace Cert.KernelIdeal.Run

open Cert.KernelIdeal Cert.KernelIdeal.Gen Cert.AllReduce
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Con F) (K : Dev nD × Cell → ℕ)

/-! ## Lists of pieces as whole buffers -/

/-- Pieces gathered name by name. -/
theorem pcs_flat {ι : Type} (c : Dev nD) (k : ι → List Piece) (Φ : ι → sProp 𝕄) (h : ∀ n, pcs X c (k n) = Φ n) :
    ∀ l : List ι, pcs X c (l.flatMap k) = bigSepL l Φ
  | [] => rfl
  | n :: l => by
    have ih := pcs_flat c k Φ h l
    rw [List.flatMap_cons, pcs_append, ih, bigSepL_cons, h]
    rfl
theorem pcs_map {ι : Type} (c : Dev nD) (p : ι → Piece) (Φ : ι → sProp 𝕄) (h : ∀ n, pc X c (p n) = Φ n) (l : List ι) :
    pcs X c (l.map p) = bigSepL l Φ := by
  rw [List.map_eq_flatMap]
  exact pcs_flat X c (fun n => [p n]) Φ (fun n => (pcs_one X c _).trans (h n)) l
/-- Holdings gathered name by name. -/
theorem holds_map {ι : Type} (c : Dev nD) (p : ι → Res) (Φ : ι → sProp 𝕄) (h : ∀ n, res X c (p n) = Φ n) :
    ∀ l : List ι, holds X c (l.map p) = bigSepL l Φ
  | [] => rfl
  | n :: l => by
    have ih := holds_map c p Φ h l
    rw [List.map_cons, bigSepL_cons, ← ih, ← h]
    rfl

/-- The names of the bands number them. -/
def bandEquiv (c : Dev nD) : (Fin 4 × Fin 4 × Fin 2) ≃ Fin 32 :=
  Equiv.ofBijective (fun n => bnd c n.1 n.2.1 n.2.2)
    ⟨fun a b h => bnd_inj c h, fun b => bnd_surj c b⟩

/-- All bands, by their names. -/
theorem bands_list (c : Dev nD) (Φ : Fin 32 → sProp 𝕄) :
    bigSep Finset.univ Φ = bigSepL names (fun n => Φ (bnd c n.1 n.2.1 n.2.2)) :=
  (bigSep_univ_equiv (bandEquiv c) Φ).trans (bigSep_univ_eq_bigSepL names names_univ.symm names_nodup _)

/-- Elements that a family of sets makes up, set by set. -/
theorem split_family {ℓ : Loc nD τ sig} {T : Type} [Fintype T] (q : PosShare TreeShare) (f : Buf (Elt F) ℓ) (U : Finset (Idx ℓ)) (A : T → Finset (Idx ℓ))
    (hU : ∀ i, i ∈ U ↔ ∃ t, i ∈ A t) (hA : ∀ t t', t ≠ t' → Disjoint (A t) (A t')) :
    (ℓ ↦[U]{q} f : sProp 𝕄) = bigSep Finset.univ fun t => ℓ ↦[A t]{q} f := by
  rw [← pointsTo_biUnion Finset.univ A fun t _ t' _ h => hA t t' h]
  congr 1
  ext i
  rw [hU, Finset.mem_biUnion]
  exact ⟨fun ⟨t, h⟩ => ⟨t, Finset.mem_univ t, h⟩, fun ⟨t, _, h⟩ => ⟨t, h⟩⟩

theorem band_all (i : S4096x1024.Idx) : i ∈ (Finset.univ : Finset S4096x1024.Idx) ↔ ∃ b, i ∈ bandSet b :=
  ⟨fun _ => ⟨bandOf i, mem_bandSet.mpr rfl⟩, fun _ => Finset.mem_univ i⟩
theorem slot_all (i : S6x128x1024.Idx) : i ∈ (Finset.univ : Finset S6x128x1024.Idx) ↔ ∃ k, i ∈ slotSet k :=
  ⟨fun _ => ⟨i 0, mem_slotSet.mpr rfl⟩, fun _ => Finset.mem_univ i⟩
theorem disjoint_slots {k k' : Fin 6} (h : k ≠ k') : Disjoint (slotSet k) (slotSet k') := by
  rw [Finset.disjoint_left]
  intro i hi hi'
  exact h (Fin.ext ((mem_slotSet.mp hi).symm.trans (mem_slotSet.mp hi')))

theorem x_bands (c : Dev nD) (f : Con F) :
    (xAt c Finset.univ f : sProp 𝕄) = bigSep Finset.univ fun b => xAt c (bandSet b) f :=
  split_family (ℓ := (c : Thread nD τ).loc cc0_stg0_0) fullShare f Finset.univ bandSet band_all fun _ _ h => disjoint_bands h
theorem o_bands (c : Dev nD) (f : Con F) :
    (oAt c Finset.univ fullShare f : sProp 𝕄) = bigSep Finset.univ fun b => oAt c (bandSet b) fullShare f :=
  split_family (ℓ := (c : Thread nD τ).loc cc0_stg1_0) fullShare f Finset.univ bandSet band_all fun _ _ h => disjoint_bands h
theorem c_slots (c : Dev nD) (f : S6x128x1024.Idx → Elt F .f32) :
    (cAt c Finset.univ f : sProp 𝕄) = bigSep Finset.univ fun k => cAt c (slotSet k) f :=
  split_family (ℓ := (c : Thread nD τ).loc cc0_scratch0) fullShare f Finset.univ slotSet slot_all fun _ _ h => disjoint_slots h

theorem o_some (c : Dev nD) (I : Finset S4096x1024.Idx) (f : Con F) : oAt c I fullShare f ⊢ iprop(∃ f, oAt c I fullShare f : sProp 𝕄) := by
  iintro H
  iexists _
  iexact H
theorem c_some (c : Dev nD) (I : Finset S6x128x1024.Idx) (f : S6x128x1024.Idx → Elt F .f32) : cAt c I f ⊢ iprop(∃ f, cAt c I f : sProp 𝕄) := by
  iintro H
  iexists _
  iexact H

/-- The whole input is its bands. -/
theorem x_whole (c : Dev nD) : pcs X c xAll = xAt c Finset.univ (X c) := by
  rw [x_bands, bands_list c]
  exact pcs_map X c _ _ (fun n => rfl) names
/-- The whole result buffer, whatever it holds, gives its bands. -/
theorem o_start (c : Dev nD) (f : Con F) : oAt c Finset.univ fullShare f ⊢ pcs X c oAny := by
  unfold oAny
  rw [o_bands, pcs_map X c _ (fun n => iprop(∃ f, oAt c (bandSet (bnd c n.1 n.2.1 n.2.2)) fullShare f)) (fun n => rfl) names,
    ← bands_list c (fun b => iprop(∃ f, oAt c (bandSet b) fullShare f))]
  exact bigSep_mono fun b _ => o_some c _ f
/-- The finished bands are the whole result buffer. -/
theorem o_end (c : Dev nD) : pcs X c oFin = oAt c Finset.univ fullShare (finBuf X c) := by
  rw [o_bands, bands_list c]
  unfold oFin
  refine pcs_flat X c _ _ (fun n => ?_) names
  obtain ⟨q, j, g⟩ := n
  dsimp only
  split
  · exact thirds_pcs X c q j g
  · exact pcs_one X c _

theorem slot_list (Φ : Fin 6 → sProp 𝕄) : bigSep Finset.univ Φ = bigSepL [0, 1, 2, 3, 4, 5] Φ :=
  bigSep_univ_eq_bigSepL _ (by decide) (by decide) Φ
/-- The landing buffer, whatever it holds, gives its slots. -/
theorem c_start (c : Dev nD) (f : S6x128x1024.Idx → Elt F .f32) : cAt c Finset.univ f ⊢ pcs X c (cmAll false) := by
  rw [show cmAll false = ([0, 1, 2, 3, 4, 5] : List (Fin 6)).map (fun k => .cm .self k false) from rfl,
    c_slots, pcs_map X c _ (fun k => iprop(∃ f, cAt c (slotSet k) f)) (fun n => rfl), ← slot_list]
  exact bigSep_mono fun b _ => c_some c _ f
/-- The slots after everything has landed are the whole landing buffer. -/
theorem c_end (c : Dev nD) : pcs X c (cmAll true) = cAt c Finset.univ (commBuf X c) := by
  rw [show cmAll true = ([0, 1, 2, 3, 4, 5] : List (Fin 6)).map (fun k => .cm .self k true) from rfl,
    c_slots, pcs_map X c _ (fun k => cAt c (slotSet k) (commBuf X c)) (fun n => rfl), ← slot_list]

/-! ## The cells of a device, listed -/

theorem both_mono {P P' Q Q' : sProp 𝕄} (h : P ⊢ P') (h' : Q ⊢ Q') : iprop(P ∗ Q) ⊢ iprop(P' ∗ Q') := by
  iintro ⟨H, H'⟩
  isplitl [H]
  · iapply h; iexact H
  iapply h'; iexact H'

theorem bigSepL_weaken {ι : Type} {Φ Ψ : ι → sProp 𝕄} : ∀ l : List ι, (∀ i ∈ l, Φ i ⊢ Ψ i) → bigSepL l Φ ⊢ bigSepL l Ψ
  | [], _ => BI.Entails.refl _
  | i :: l, h => by
    have ih := bigSepL_weaken l fun j hj => h j (List.mem_cons_of_mem _ hj)
    rw [bigSepL_cons, bigSepL_cons]
    exact both_mono (h i List.mem_cons_self) ih

/-- Own cell number of a DMA semaphore. -/
def ix (n : Fin 76) : Fin 74 := ⟨n.val - 2, by omega⟩
/-- The cells no copy uses. -/
def spares : List (Fin 74) := [59, 63, 67, 71]
/-- The own cells: every copy's two, and the four spare ones. -/
def ownList : List (Fin 74) := allTr.map (fun i => ix i.sNum) ++ allTr.map (fun i => ix i.rNum) ++ spares
theorem ownList_univ : Finset.univ = ownList.toFinset := by decide +kernel
theorem ownList_nodup : ownList.Nodup := by decide +kernel

theorem kcell_ix (c : Dev nD) (n : Fin 76) (h : 2 ≤ n.val) : kcell (c, .inr (ix n)) = dmaCell c n :=
  congrArg (fun x : Fin 76 => dmaCell c x) (Fin.ext (by show n.val - 2 + 2 = n.val; omega) : (⟨(ix n).val + 2, by omega⟩ : Fin 76) = n)

/-- Something of every cell of a device, cell by cell. -/
theorem cells_list (c : Dev nD) (Φ : GSem nD τ sig → sProp 𝕄) :
    (bigSep Finset.univ fun k : Cell => Φ (kcell (c, k)))
      = iprop(Φ (barCell c) ∗ (bigSepL allTr (fun i => Φ (dmaCell c i.sNum)) ∗ bigSepL allTr (fun i => Φ (dmaCell c i.rNum)))
          ∗ bigSepL spares (fun k => Φ (kcell (c, .inr k)))) := by
  have h1 : (bigSep Finset.univ fun k : Cell => Φ (kcell (c, k)))
      = iprop((bigSep Finset.univ fun k : Fin 1 => Φ (kcell (c, .inl k))) ∗ (bigSep Finset.univ fun k : Fin 74 => Φ (kcell (c, .inr k)))) :=
    bigSep_univ_sum fun k : Cell => Φ (kcell (c, k))
  have h2 : (bigSep Finset.univ fun k : Fin 1 => Φ (kcell (c, .inl k))) = Φ (barCell c) :=
    bigSep_univ_eq_bigSepL [(0 : Fin 1)] (by decide) (by decide) _
  have h3 : (bigSep Finset.univ fun k : Fin 74 => Φ (kcell (c, .inr k))) = bigSepL ownList (fun k => Φ (kcell (c, .inr k))) :=
    bigSep_univ_eq_bigSepL ownList ownList_univ ownList_nodup _
  have h4 : ∀ i : Tr, kcell (c, .inr (ix i.sNum)) = dmaCell c i.sNum := fun i => kcell_ix c _ (sNum_ge i)
  have h5 : ∀ i : Tr, kcell (c, .inr (ix i.rNum)) = dmaCell c i.rNum := fun i => kcell_ix c _ (rNum_ge i)
  rw [h1, h2, h3]
  unfold ownList
  rw [bigSepL_append, bigSepL_append, bigSepL_map, bigSepL_map]
  simp only [h4, h5]

/-- A device's places at all its cells when it starts are those of the table, and those at the spare cells. -/
theorem places (c : Dev nD) :
    (bigSep Finset.univ fun k : Cell => (atPos ER (kcell (c, k)) 0 ∅ 0 : sProp 𝕄))
      ⊢ iprop(holds X c (.aB :: allTr.map .aS ++ allTr.map .aR) ∗ bigSepL spares (fun k => atPos ER (kcell (c, .inr k)) 0 ∅ 0)) := by
  rw [cells_list c (fun g => atPos ER g 0 ∅ 0)]
  show _ ⊢ iprop((atPos ER (barCell c) 0 ∅ 0 ∗ holds X c (allTr.map .aS ++ allTr.map .aR)) ∗ _)
  rw [holds_append, holds_map X c .aS (fun i => atPos ER (dmaCell c i.sNum) 0 ∅ 0) (fun _ => rfl),
    holds_map X c .aR (fun i => atPos ER (dmaCell c i.rNum) 0 ∅ 0) (fun _ => rfl)]
  simp only [sep_assoc_eq]
  exact BI.Entails.refl _

/-- A device past the last round of a cell. -/
def past (g : GSem nD τ sig) : sProp 𝕄 := iprop(∃ R, ⌜∀ r, R ≤ r → (rd X).duties g r = ∅⌝ ∗ atPos ER g R ∅ 0)

theorem past_one (g : GSem nD τ sig) : atPos ER g (0 + 1) ∅ 0 ⊢ past X g := by
  unfold past
  iintro H
  iexists (0 + 1)
  isplitr; · ipureintro; exact duties_later X g
  iexact H
theorem past_spare (c : Dev nD) (k : Fin 74) (h : k ∈ spares) : atPos ER (kcell (c, .inr k)) 0 ∅ 0 ⊢ past X (kcell (c, .inr k)) := by
  unfold past
  iintro H
  iexists 0
  isplitr
  · ipureintro
    intro r _
    refine duties_none X c ?_ r
    revert k; decide
  iexact H

theorem all_past (c : Dev nD) :
    iprop(holds X c (.zB :: allTr.map .zS ++ allTr.map .zR) ∗ bigSepL spares (fun k => atPos ER (kcell (c, .inr k)) 0 ∅ 0))
      ⊢ (bigSep Finset.univ fun k : Cell => past X (kcell (c, k))) := by
  rw [cells_list c (past X)]
  show iprop((atPos ER (barCell c) (0 + 1) ∅ 0 ∗ holds X c (allTr.map .zS ++ allTr.map .zR)) ∗ _) ⊢ _
  rw [holds_append, holds_map X c .zS (fun i => atPos ER (dmaCell c i.sNum) (0 + 1) ∅ 0) (fun _ => rfl),
    holds_map X c .zR (fun i => atPos ER (dmaCell c i.rNum) (0 + 1) ∅ 0) (fun _ => rfl)]
  simp only [sep_assoc_eq]
  refine both_mono (past_one X _) (both_mono (bigSepL_weaken _ fun i _ => past_one X _) (both_mono (bigSepL_weaken _ fun i _ => past_one X _) ?_))
  exact bigSepL_weaken spares fun k hk => past_spare X c k hk

/-- A lasting fact may be used once for every member of a family. -/
theorem use_everywhere {I : Type} [DecidableEq I] (S : Finset I) {R : sProp 𝕄} [BI.Persistent R] {Φ Ψ : I → sProp 𝕄}
    (h : ∀ i ∈ S, iprop(R ∗ Φ i) ⊢ Ψ i) : iprop(R ∗ bigSep S Φ) ⊢ bigSep S Ψ := by
  have h1 : iprop(R ∗ bigSep S Φ) ⊢ iprop(bigSep S (fun _ => R) ∗ bigSep S Φ) :=
    both_mono (BI.bigSep_of_persistent S R) (BI.Entails.refl _)
  have h2 : iprop(bigSep S (fun _ => R) ∗ bigSep S Φ) ⊢ bigSep S Ψ := by
    rw [← bigSep_sep']
    exact bigSep_mono h
  exact h1.trans h2

/-- All cells of a device close, their counters at zero. -/
theorem close_all (c : Dev nD) :
    iprop(recs X K ∗ (bigSep Finset.univ fun k : Cell => past X (kcell (c, k))))
      ⊢ |={Set.univ}=> (bigSep Finset.univ fun k : Cell => (semVal (kcell (c, k)) 0 : sProp 𝕄)) := by
  refine (use_everywhere Finset.univ (R := recs X K) (Ψ := fun k : Cell => iprop(|={Set.univ}=> semVal (kcell (c, k)) 0)) fun k _ => ?_).trans (bigSep_fupd _ _)
  unfold past
  iintro ⟨#HR, ⟨%R, %hR, H⟩⟩
  ihave HI := (recs_cell X K (c, k)) $$ HR
  icases HI with ⟨#HI, -⟩
  iapply (Rounds.cell_close ER (rd X) (Set.mem_univ (K (c, k))) (fun h => h) (R := R) hR)
  isplitr; · iexact HI
  iexact H

/-! ## The body -/

/-- The right to signal, as a device starts with it. -/
def payToks (c : Dev nD) : sProp 𝕄 := holds X c (allTr.map .tS ++ allTr.map .tR ++ [.tB 0, .tB 1, .tB 2, .tB 3, .tB 4])
/-- The credit a device starts with. -/
def credits (c : Dev nD) : sProp 𝕄 := holds X c (.cB :: allTr.map .cR)
/-- A device's places and rights. -/
def linear (c : Dev nD) : sProp 𝕄 :=
  iprop((bigSep Finset.univ fun k : Cell => (atPos ER (kcell (c, k)) 0 ∅ 0 : sProp 𝕄)) ∗ payToks X c)
/-- What the body leaves besides the staged buffers: the landing buffer and every cell's counter at zero. -/
def leaves (c : Dev nD) : sProp 𝕄 :=
  iprop((∃ f, cAt c Finset.univ f) ∗ bigSep Finset.univ fun k : Cell => (semVal (kcell (c, k)) 0 : sProp 𝕄))

/-- What a device starts with is the table's start. -/
theorem start_eq (c : Dev nD) :
    holds X c start = iprop(holds X c (.aB :: allTr.map .aS ++ allTr.map .aR) ∗ payToks X c ∗ credits X c
      ∗ pcs X c xAll ∗ pcs X c oAny ∗ pcs X c (cmAll false)) := by
  unfold start payToks credits
  rw [holds_append, holds_append, holds_append, holds_pcs, pcs_append, pcs_append, sep_assoc_eq, sep_assoc_eq, sep_assoc_eq]
theorem finish_eq (c : Dev nD) :
    holds X c finish = iprop(holds X c (.zB :: allTr.map .zS ++ allTr.map .zR) ∗ pcs X c xAll ∗ pcs X c oFin ∗ pcs X c (cmAll true)) := by
  unfold finish
  rw [holds_append, holds_pcs, pcs_append, pcs_append, sep_assoc_eq]

/-- The kernel's body on a device: from its records, rights, credit and buffers, to the finished result. -/
theorem body_run (c : Dev nD) (Q : PUnit → sProp 𝕄) :
    iprop(recs X K ∗ linear X c ∗ credits X c ∗ (∃ f, cAt c Finset.univ f) ∗ (∃ W, owes (c : Thread nD τ) (owed c prog) W)
        ∗ xAt c Finset.univ (X c) ∗ (∃ f, oAt c Finset.univ fullShare f))
      ⊢ iprop(((leaves c ∗ (∃ W, owes (c : Thread nD τ) 0 W) ∗ xAt c Finset.univ (X c) ∗ oAt c Finset.univ fullShare (finBuf X c)) -∗ Q ⟨⟩)
          -∗ wpc c body Q) := by
  rw [body_eq]
  simp only [Prog.lift, Prog.bind_op, Prog.bind_ret, wpc, wp_deviceId]
  unfold linear
  iintro ⟨#HR, ⟨Ha, Ht⟩, Hc, ⟨%fc, Hcm⟩, HO, Hx, ⟨%fo, Ho⟩⟩ Hk
  ihave Ha := (places X c) $$ Ha
  icases Ha with ⟨Ha, Hsp⟩
  ihave Hcm := (c_start X c fc) $$ Hcm
  ihave Ho := (o_start X c fo) $$ Ho
  ihave Hx := (Entails.of_eq (x_whole X c).symm) $$ Hx
  iapply (run_all X K c Q) $$ [Ha Ht Hc Hcm HO Hx Ho]
  · isplitr; · iexact HR
    isplitr [HO]
    · rw [start_eq]
      isplitl [Ha]; · iexact Ha
      isplitl [Ht]; · iexact Ht
      isplitl [Hc]; · iexact Hc
      isplitl [Hx]; · iexact Hx
      isplitl [Ho]; · iexact Ho
      iexact Hcm
    iexact HO
  rw [finish_eq]
  iintro ⟨⟨Hz, Hx, Ho, Hcm⟩, HO⟩
  ihave Hz := (all_past X c) $$ [Hz Hsp]
  · isplitl [Hz]; · iexact Hz
    iexact Hsp
  imod (close_all X K c) $$ [Hz] with Hz
  · isplitr; · iexact HR
    iexact Hz
  imodintro
  ihave Hx := (Entails.of_eq (x_whole X c)) $$ Hx
  ihave Ho := (Entails.of_eq (o_end X c)) $$ Ho
  ihave Hcm := (Entails.of_eq (c_end X c)) $$ Hcm
  iapply Hk
  unfold leaves
  isplitl [Hz Hcm]
  · isplitl [Hcm]; · iexists _; iexact Hcm
    iexact Hz
  isplitl [HO]; · iexact HO
  isplitl [Hx]; · iexact Hx
  iexact Ho

end Cert.KernelIdeal.Run

end
-- ==== Proof.RunIdeal.Start.lean ====
/-
# What every device starts with

The launch gives each device the places and rights of its own cells and the credit of what is owed to it. The rights are
passed to the devices that pay with them, and every cell's invariant is made known to all.
-/
module

public import proofs.«01_k».proof.Proof.RunIdeal.Body

public import Idealize.ShloMosaic.Lib.Pipeline.BigSepL
public import Idealize.ShloMosaic.Lib.Pipeline.Launch

@[expose] public section

set_option maxRecDepth 65536

noncomputable section

namespace Cert.KernelIdeal.Run

open Cert.KernelIdeal Cert.KernelIdeal.Gen Cert.AllReduce
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Con F)

/-! ## The cells and the rights, all devices together -/

instance trFintype : Fintype Tr := ⟨allTr.toFinset, fun i => List.mem_toFinset.mpr (mem_allTr i)⟩
theorem allTr_nodup : allTr.Nodup := by decide +kernel
theorem over_tr (Φ : Tr → sProp 𝕄) : bigSep Finset.univ Φ = bigSepL allTr Φ :=
  bigSep_univ_eq_bigSepL allTr rfl allTr_nodup Φ

theorem csem_injective : Function.Injective csem := by
  rintro (k | k) (k' | k') h
  · exact congrArg Sum.inl (Subsingleton.elim k k')
  · cases h
  · cases h
  · have h1 : (⟨k.val + 2, by omega⟩ : Fin 76) = ⟨k'.val + 2, by omega⟩ := SemLoc.dma.inj h
    have h2 : k.val + 2 = k'.val + 2 := congrArg Fin.val h1
    exact congrArg Sum.inr (Fin.ext (by omega))
theorem kcell_injective : Function.Injective kcell := by
  rintro ⟨c, k⟩ ⟨c', k'⟩ h
  have h1 : c = c' := congrArg (fun g : GSem nD τ sig => g.1.1) h
  have h2 : csem k = csem k' := congrArg (fun g : GSem nD τ sig => g.2) h
  rw [h1, csem_injective h2]

/-- All devices' cells. -/
def allCells : Finset (GSem nD τ sig) := Finset.univ.map ⟨kcell, kcell_injective⟩

/-- The rights a device's own cells come with: a copy's two ends, and the five signals of its barrier. -/
abbrev Tok : Type := Tr ⊕ Tr ⊕ Fin 5
def tokSem : Tok → SemLoc sig × Fin 5
  | .inl i => (.dma i.sNum, 0)
  | .inr (.inl i) => (.dma i.rNum, 0)
  | .inr (.inr k) => (.reg barS, k)
def tokOf (ct : Dev nD × Tok) : GSem nD τ sig × ℕ × Fin 5 := (((ct.1 : Thread nD τ), (tokSem ct.2).1), 0, (tokSem ct.2).2)

/-- Which right a semaphore and a duty stand for. -/
def tokBack : SemLoc sig × Fin 5 → Option Tok
  | (.dma n, _) => (info n).map fun e => if e.1 then .inr (.inl e.2) else .inl e.2
  | (.reg _, k) => some (.inr (.inr k))
theorem tokBack_tokSem (t : Tok) : tokBack (tokSem t) = some t := by
  rcases t with i | i | k
  · show (info i.sNum).map _ = _; rw [info_s]; rfl
  · show (info i.rNum).map _ = _; rw [info_r]; rfl
  · rfl
theorem tokOf_injective : Function.Injective tokOf := by
  rintro ⟨c, t⟩ ⟨c', t'⟩ h
  have h1 : c = c' := congrArg (fun x : GSem nD τ sig × ℕ × Fin 5 => x.1.1.1) h
  have h2 : tokSem t = tokSem t' := congrArg (fun x : GSem nD τ sig × ℕ × Fin 5 => (x.1.2, x.2.2)) h
  have h3 : some t = some t' := by rw [← tokBack_tokSem t, ← tokBack_tokSem t', h2]
  rw [h1, Option.some.inj h3]
def allToks : Finset (GSem nD τ sig × ℕ × Fin 5) := Finset.univ.map ⟨tokOf, tokOf_injective⟩

/-- The rights of a device's own cells. -/
def toks (c : Dev nD) : sProp 𝕄 := bigSep Finset.univ fun t : Tok => dutyTok ER (tokOf (c, t)).1 0 (tokOf (c, t)).2.2

theorem toks_eq (c : Dev nD) : (toks c : sProp 𝕄)
    = iprop((bigSep Finset.univ fun i : Tr => dutyTok ER (dmaCell c i.sNum) 0 0)
      ∗ (bigSep Finset.univ fun i : Tr => dutyTok ER (dmaCell c i.rNum) 0 0)
      ∗ (bigSep Finset.univ fun k : Fin 5 => dutyTok ER (barCell c) 0 k)) := by
  unfold toks
  rw [bigSep_univ_sum, bigSep_univ_sum]
  rfl

theorem payToks_eq (c : Dev nD) : payToks X c
    = iprop((bigSep Finset.univ fun i : Tr => dutyTok ER (dmaCell c i.sNum) 0 0)
      ∗ (bigSep Finset.univ fun i : Tr => dutyTok ER (dmaCell (i.to.at c) i.rNum) 0 0)
      ∗ (bigSep Finset.univ fun k : Fin 5 => dutyTok ER (barCell ((peer k).at c)) 0 k)) := by
  have hB : holds X c [.tB 0, .tB 1, .tB 2, .tB 3, .tB 4] = bigSep Finset.univ fun k : Fin 5 => dutyTok ER (barCell ((peer k).at c)) 0 k := by
    rw [bigSep_univ_eq_bigSepL [0, 1, 2, 3, 4] (by decide) (by decide), bigSepL_cons_cons, bigSepL_cons_cons, bigSepL_cons_cons,
      bigSepL_cons_cons, bigSepL_singleton]
    simp only [holds, res, sep_emp_eq]
    rfl
  unfold payToks
  rw [holds_append, holds_append, hB, over_tr, over_tr,
    holds_map X c .tS (fun i => dutyTok ER (dmaCell c i.sNum) 0 0) (fun _ => rfl),
    holds_map X c .tR (fun i => dutyTok ER (dmaCell (i.to.at c) i.rNum) 0 0) (fun _ => rfl), sep_assoc_eq]

/-- Every copy's sender, in place of its receiver. -/
def sendTo : Dev nD × Tr ≃ Dev nD × Tr :=
  ⟨fun p => (p.2.to.at p.1, p.2), fun p => (p.2.from.at p.1, p.2), fun p => Prod.ext (from_to p.2 p.1) rfl, fun p => Prod.ext (to_from p.2 p.1) rfl⟩
/-- Every signal's sender, in place of its receiver. -/
def sigTo : Dev nD × Fin 5 ≃ Dev nD × Fin 5 :=
  ⟨fun p => ((peer p.2).at p.1, p.2), fun p => ((peerFrom p.2).at p.1, p.2), fun p => Prod.ext (peerFrom_peer p.2 p.1) rfl, fun p => Prod.ext (peer_peerFrom p.2 p.1) rfl⟩

theorem regroup_tr (Φ : Dev nD → Tr → sProp 𝕄) :
    (bigSep Finset.univ fun c => bigSep Finset.univ fun i => Φ c i) = bigSep Finset.univ fun c => bigSep Finset.univ fun i : Tr => Φ (i.to.at c) i := by
  rw [← bigSep_univ_prod (fun p : Dev nD × Tr => Φ p.1 p.2), bigSep_univ_equiv sendTo (fun p : Dev nD × Tr => Φ p.1 p.2), bigSep_univ_prod]
  rfl
theorem regroup_sig (Φ : Dev nD → Fin 5 → sProp 𝕄) :
    (bigSep Finset.univ fun c => bigSep Finset.univ fun k => Φ c k) = bigSep Finset.univ fun c => bigSep Finset.univ fun k : Fin 5 => Φ ((peer k).at c) k := by
  rw [← bigSep_univ_prod (fun p : Dev nD × Fin 5 => Φ p.1 p.2), bigSep_univ_equiv sigTo (fun p : Dev nD × Fin 5 => Φ p.1 p.2), bigSep_univ_prod]
  rfl

/-- The rights of all cells are the rights of all that pay on them. -/
theorem toks_around : (bigSep Finset.univ fun c : Dev nD => (toks c : sProp 𝕄)) = bigSep Finset.univ fun c : Dev nD => payToks X c := by
  simp only [toks_eq, payToks_eq]
  rw [bigSep_sep', bigSep_sep', bigSep_sep', bigSep_sep', regroup_tr (fun c i => dutyTok ER (dmaCell c i.rNum) 0 0),
    regroup_sig (fun c k => dutyTok ER (barCell c) 0 k)]

/-! ## The launch's credit -/

theorem sends_once (i : Tr) : prog.count (.send i) = 1 := by
  have h : ∀ i ∈ allTr, prog.count (.send i) = 1 := by decide +kernel
  exact h i (mem_allTr i)
theorem sigs_once (k : Fin 5) : prog.count (.sig k) = 1 := by revert k; decide +kernel

theorem rNum_injective {i j : Tr} (h : i.rNum = j.rNum) : i = j := by
  have h1 := info_r i
  rw [h, info_r j] at h1
  exact ((Prod.mk.inj (Option.some.inj h1)).2).symm

theorem owes1_recv (d c : Dev nD) (i : Tr) (o : Op) :
    owes1 d o (dmaCell c i.rNum) () = if o = .send i ∧ i.to.at d = c then amt i else 0 := by
  cases o with
  | send j =>
    unfold owes1; dsimp only; rw [tallyAt_apply]
    by_cases hj : j = i
    · subst hj
      by_cases hc : j.to.at d = c
      · rw [if_pos ⟨by rw [hc], rfl⟩, if_pos ⟨rfl, hc⟩]
      · rw [if_neg (fun h => hc (congrArg (fun g : GSem nD τ sig => g.1.1) h.1).symm), if_neg (fun h => hc h.2)]
    · rw [if_neg (fun h => hj (rNum_injective (SemLoc.dma.inj (congrArg (fun g : GSem nD τ sig => g.2) h.1))).symm),
        if_neg (fun h => hj (Op.send.inj h.1))]
  | sig k =>
    unfold owes1; dsimp only; rw [tallyAt_apply, if_neg (fun h => by cases congrArg (fun g : GSem nD τ sig => g.2) h.1), if_neg (fun h => by cases h.1)]
  | _ => rw [if_neg (fun h => by cases h.1)]; rfl

theorem owed_recv (d c : Dev nD) (i : Tr) : ∀ l : List Op,
    owed d l (dmaCell c i.rNum) () = if d = i.from.at c then l.count (.send i) * amt i else 0
  | [] => by simp [owed]
  | o :: l => by
    have hd : i.to.at d = c ↔ d = i.from.at c :=
      ⟨fun h => by rw [← h, from_to], fun h => by rw [h, to_from]⟩
    unfold owed
    rw [Pi.add_apply, Finsupp.add_apply, owed_recv d c i l, owes1_recv]
    by_cases h : d = i.from.at c
    · rw [if_pos h, if_pos h, List.count_cons]
      by_cases ho : o = .send i
      · rw [if_pos ⟨ho, hd.mpr h⟩, if_pos (beq_iff_eq.mpr ho), Nat.add_mul, Nat.one_mul]
      · rw [if_neg (fun h => ho h.1), if_neg (fun h => ho (beq_iff_eq.mp h)), Nat.add_zero, Nat.add_zero]
    · rw [if_neg h, if_neg h, if_neg (fun h' => h (hd.mp h'.2))]

theorem owes1_bar (d c : Dev nD) (o : Op) :
    owes1 d o (barCell c) () = ∑ k : Fin 5, if d = (peerFrom k).at c then (if o = .sig k then 1 else 0) else 0 := by
  have hd (k : Fin 5) : (peer k).at d = c ↔ d = (peerFrom k).at c :=
    ⟨fun h => by rw [← h, peerFrom_peer], fun h => by rw [h, peer_peerFrom]⟩
  cases o with
  | sig j =>
    unfold owes1; dsimp only; rw [tallyAt_apply, Finset.sum_eq_single j]
    · rw [if_pos rfl]
      by_cases hc : d = (peerFrom j).at c
      · rw [if_pos hc, if_pos ⟨by rw [(hd j).mpr hc], rfl⟩]
      · rw [if_neg hc, if_neg (fun h => hc ((hd j).mp (congrArg (fun g : GSem nD τ sig => g.1.1) h.1).symm))]
    · intro k _ hk
      rw [if_neg (fun h => hk (Op.sig.inj h).symm), ite_self]
    · intro h; exact absurd (Finset.mem_univ _) h
  | send i =>
    unfold owes1; dsimp only; rw [tallyAt_apply, if_neg (fun h => by cases congrArg (fun g : GSem nD τ sig => g.2) h.1)]
    exact (Finset.sum_eq_zero fun k _ => by rw [if_neg (fun h : Op.send i = .sig k => by cases h), ite_self]).symm
  | _ => exact (Finset.sum_eq_zero fun k _ => by simp).symm

theorem owed_bar (d c : Dev nD) : ∀ l : List Op,
    owed d l (barCell c) () = ∑ k : Fin 5, if d = (peerFrom k).at c then l.count (.sig k) else 0
  | [] => by simp [owed]
  | o :: l => by
    unfold owed
    rw [Pi.add_apply, Finsupp.add_apply, owed_bar d c l, owes1_bar, ← Finset.sum_add_distrib]
    refine Finset.sum_congr rfl fun k _ => ?_
    by_cases h : d = (peerFrom k).at c
    · rw [if_pos h, if_pos h, if_pos h, List.count_cons]
      by_cases ho : o = .sig k
      · rw [if_pos ho, if_pos (beq_iff_eq.mpr ho)]
      · rw [if_neg ho, if_neg (fun h => ho (beq_iff_eq.mp h))]
    · rw [if_neg h, if_neg h, if_neg h]

/-- What all devices together owe a cell at the start. -/
abbrev owe0 : Dev nD → CellTallies nD τ sig Unit := fun d => owed d prog

theorem launch_recv (c : Dev nD) (i : Tr) :
    tallyOn (dmaCell c i.rNum) (launchCredit (Pipeline.owing owe0) 0 (dmaCell c i.rNum)) = (tallyAt (dmaCell c i.rNum) () (amt i) : CellTallies nD τ sig Unit) := by
  unfold tallyAt; refine congrArg _ (Finsupp.ext fun u => ?_); cases u
  rw [Pipeline.launchCredit_owing, Finsupp.single_eq_same, Finset.sum_congr rfl fun d _ => owed_recv d c i prog, sends_once, Nat.one_mul,
    Finset.sum_ite_eq' Finset.univ (i.from.at c) fun _ => amt i, if_pos (Finset.mem_univ _)]
theorem launch_bar (c : Dev nD) :
    tallyOn (barCell c) (launchCredit (Pipeline.owing owe0) 0 (barCell c)) = (tallyAt (barCell c) () 5 : CellTallies nD τ sig Unit) := by
  unfold tallyAt; refine congrArg _ (Finsupp.ext fun u => ?_); cases u
  rw [Pipeline.launchCredit_owing, Finsupp.single_eq_same, Finset.sum_congr rfl fun d _ => owed_bar d c prog, Finset.sum_comm]
  have h (k : Fin 5) : (∑ d : Dev nD, if d = (peerFrom k).at c then prog.count (.sig k) else 0) = 1 := by
    rw [Finset.sum_ite_eq' Finset.univ ((peerFrom k).at c) fun _ => prog.count (.sig k), if_pos (Finset.mem_univ _), sigs_once]
  rw [Finset.sum_congr rfl fun k _ => h k]
  rfl

/-- The semaphores a device waits on for others. -/
def ins : List (SemLoc sig) := .reg barS :: allTr.map fun i => .dma i.rNum
theorem ins_nodup : ins.Nodup := by decide +kernel

/-- The launch credits a device with what it waits for. -/
theorem creds (c : Dev nD) : (Pipeline.launchCred owe0 c : sProp 𝕄) ⊢ credits X c := by
  have h1 : (Pipeline.launchCred owe0 c : sProp 𝕄)
      ⊢ bigSep ins.toFinset fun sm => cred (tallyOn ((c : Thread nD τ), sm) (launchCredit (Pipeline.owing owe0) 0 ((c : Thread nD τ), sm))) :=
    BI.bigSep_subset (Finset.subset_univ _)
  refine h1.trans (Entails.of_eq ?_)
  rw [bigSep_eq_bigSepL ins ins_nodup]
  unfold ins
  rw [bigSepL_cons, bigSepL_map, launch_bar]
  unfold credits
  show _ = iprop(cred (tallyAt (barCell c) () 5) ∗ holds X c (allTr.map .cR))
  rw [holds_map X c .cR (fun i => cred (tallyAt (dmaCell c i.rNum) () (amt i))) (fun _ => rfl)]
  simp only [launch_recv]
  rfl

/-! ## Funding -/

/-- What the launch's element deals a device. -/
def dealt (c : Dev nD) : sProp 𝕄 :=
  iprop((bigSep Finset.univ fun k : Cell => roundState ER (rd X) (kcell (c, k)) 0)
    ∗ (bigSep Finset.univ fun k : Cell => iprop(atPos ER (kcell (c, k)) 0 ∅ 0 ∗ reached ER (kcell (c, k)) 0)) ∗ toks c)

theorem over_cells (Φ : GSem nD τ sig → sProp 𝕄) :
    bigSep allCells Φ = bigSep Finset.univ fun c : Dev nD => bigSep Finset.univ fun k : Cell => Φ (kcell (c, k)) := by
  unfold allCells
  rw [bigSep_map, bigSep_univ_prod]
  rfl
theorem over_toks : bigSep allToks (fun x => (dutyTok ER x.1 x.2.1 x.2.2 : sProp 𝕄)) = bigSep Finset.univ fun c : Dev nD => toks c := by
  unfold allToks
  rw [bigSep_map, bigSep_univ_prod]
  rfl

/-- The launch's element pays for every cell's round, places and rights. -/
theorem fund_all : BI.own (ER (initOf allCells allToks)) ⊢ (|==> bigSep Finset.univ (dealt X) : sProp 𝕄) := by
  iintro H
  imod (Rounds.fund ER (rd X) allCells allToks) $$ H with ⟨Hs, Hr, Ha, Ht⟩
  imodintro
  ihave Hs := (Entails.of_eq (over_cells fun g => roundState ER (rd X) g 0)) $$ Hs
  ihave Ha := (Entails.of_eq (over_cells fun g => atPos ER g 0 ∅ 0)) $$ Ha
  ihave Hr := (Entails.of_eq (over_cells fun g => reached ER g 0)) $$ Hr
  ihave Ht := (Entails.of_eq over_toks) $$ Ht
  unfold dealt
  simp only [bigSep_sep']
  isplitl [Hs]; · iexact Hs
  isplitl [Ha Hr]
  · isplitl [Ha] <;> iassumption
  iexact Ht

/-! ## Every cell's invariant -/

/-- The kernel's own DMA semaphores. -/
abbrev osem : Fin 74 → SemLoc sig := fun k => csem (.inr k)
theorem ownSemFacts : Pipeline.OwnSemFacts cfg0.spec osem := by decide +kernel

theorem unscoped_eq (c : Dev nD) : (unscopedSems0 c : sProp 𝕄) = semVal (barCell c) 0 := by
  unfold unscopedSems0
  rw [bigSep_eq_bigSepL_of_eq [SemLoc.reg barS] (by decide +kernel) (by decide)]
  rfl

/-- The kernel's own counters and the barrier's are those of all cells. -/
theorem counters_eq (c : Dev nD) :
    (bigSep Finset.univ fun k : Cell => (semVal (kcell (c, k)) 0 : sProp 𝕄))
      = iprop(unscopedSems0 c ∗ Pipeline.ownSems0 (Ix := Unit) (Name := ℕ) (U := UU) (Lvl := ℕ) (Val := Elt F) (τ := τ) osem c) := by
  have h1 : (bigSep Finset.univ fun k : Fin 1 => (semVal (kcell (c, .inl k)) 0 : sProp 𝕄)) = semVal (barCell c) 0 :=
    bigSep_univ_eq_bigSepL [(0 : Fin 1)] (by decide) (by decide) _
  rw [bigSep_univ_sum, h1, unscoped_eq]
  rfl

/-- A device's cells get their invariants. -/
theorem cells_alloc (c : Dev nD) :
    iprop((bigSep Finset.univ fun k : Cell => (semVal (kcell (c, k)) 0 : sProp 𝕄)) ∗ bigSep Finset.univ fun k : Cell => roundState ER (rd X) (kcell (c, k)) 0)
      ⊢ |={Set.univ}=> bigSep Finset.univ fun k : Cell => iprop(∃ κ : ℕ, cellInv ER (rd X) κ (kcell (c, k))) := by
  rw [← bigSep_sep']
  exact (bigSep_mono fun k _ => (Rounds.body_intro ER (rd X) (kcell (c, k))).trans inv_alloc).trans (bigSep_fupd _ _)

/-- All invariants and open rounds, under one naming. -/
def known (K : Dev nD × Cell → ℕ) : sProp 𝕄 :=
  iprop((bigSep Finset.univ fun ck : Dev nD × Cell => cellInv ER (rd X) (K ck) (kcell ck))
    ∗ (bigSep Finset.univ fun ck : Dev nD × Cell => reached ER (kcell ck) 0))
instance known_persistent (K : Dev nD × Cell → ℕ) : BI.Persistent (known X K) := by unfold known; infer_instance

/-- What a device starts from, the credit and the levels apart. -/
def readied (c : Dev nD) : sProp 𝕄 := iprop((∃ K : Dev nD × Cell → ℕ, known X K) ∗ linear X c)

/-- A device's share, its cells' invariants in place. -/
def share1 (c : Dev nD) : sProp 𝕄 :=
  iprop((bigSep Finset.univ fun k : Cell => iprop(∃ κ : ℕ, cellInv ER (rd X) κ (kcell (c, k))))
    ∗ (bigSep Finset.univ fun k : Cell => iprop(atPos ER (kcell (c, k)) 0 ∅ 0 ∗ reached ER (kcell (c, k)) 0)) ∗ toks c)

theorem ready_one (c : Dev nD) :
    iprop(Pipeline.ownSems0 (Ix := Unit) (Name := ℕ) (U := UU) (Lvl := ℕ) (Val := Elt F) (τ := τ) osem c ∗ unscopedSems0 c ∗ dealt X c)
      ⊢ |={Set.univ}=> share1 X c := by
  unfold dealt
  iintro ⟨Ho, Hu, Hs, Ha, Ht⟩
  imod (cells_alloc X c) $$ [Ho Hu Hs] with HI
  · isplitl [Ho Hu]
    · rw [counters_eq]
      isplitl [Hu] <;> iassumption
    iexact Hs
  imodintro
  unfold share1
  isplitl [HI]; · iexact HI
  isplitl [Ha]; · iexact Ha
  iexact Ht

theorem ready_intro (K : Dev nD × Cell → ℕ) (c : Dev nD) : iprop(known X K ∗ linear X c) ⊢ readied X c := by
  unfold readied
  iintro ⟨HK, HL⟩
  isplitl [HK]
  · iexists K; iexact HK
  iexact HL

/-- Every device sees every cell's invariant, and has the rights it pays with. -/
theorem ready_all : (bigSep Finset.univ fun c : Dev nD => share1 X c) ⊢ bigSep Finset.univ (readied X) := by
  unfold share1
  rw [bigSep_sep', bigSep_sep', ← bigSep_univ_prod (fun ck : Dev nD × Cell => iprop(∃ κ : ℕ, cellInv ER (rd X) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄)), toks_around X]
  iintro ⟨HI, ⟨Ha, HR⟩, Ht⟩
  ihave HK := (BI.bigSep_exists_pi Finset.univ (fun (ck : Dev nD × Cell) (κ : ℕ) => (cellInv ER (rd X) κ (kcell ck) : sProp 𝕄))) $$ HI
  icases HK with ⟨%K, HI⟩
  iapply (use_everywhere Finset.univ (R := known X K) fun c _ => ready_intro X K c)
  isplitl [HI HR]
  · unfold known
    isplitl [HI] <;> iassumption
  unfold linear
  rw [bigSep_sep']
  isplitl [Ha]; · iexact Ha
  iexact Ht

/-- The one step that all devices take together. -/
theorem glob : (bigSep Finset.univ fun c => iprop(Pipeline.ownSems0 (Ix := Unit) (Name := ℕ) (U := UU) (Lvl := ℕ) (Val := Elt F) (τ := τ) osem c ∗ unscopedSems0 c ∗ dealt X c) : sProp 𝕄)
    ⊢ |={Set.univ}=> bigSep Finset.univ (readied X) :=
  ((bigSep_mono fun c _ => ready_one X c).trans (bigSep_fupd _ _)).trans (BI.fupd_mono (ready_all X))

end Cert.KernelIdeal.Run

end
-- ==== Proof.RunIdeal.Launch.lean ====
/-
# The launch

The launch theorem for a kernel that talks over the runtime's barrier semaphore, applied: from any memory with zero
counters every run ends, with the argument as it was, the result array holding the finished sums, and zero counters.
-/
module

public import proofs.«01_k».proof.Proof.RunIdeal.Start
public import proofs.«01_k».proof.Proof.Gen.KernelIdeal.Points

public import Idealize.ShloMosaic.Lib.Pipeline.BigSepL
public import Idealize.ShloMosaic.Lib.Pipeline.Launch
public import Idealize.ShloMosaic.Lib.Pipeline.CollectiveSegs

@[expose] public section

set_option maxRecDepth 65536

noncomputable section

namespace Cert.KernelIdeal.Run

open Cert.KernelIdeal Cert.KernelIdeal.Gen Cert.AllReduce
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter zero. -/
def s₀ : MemSt nD τ sig (Elt F) := ⟨m, fun _ => 0, ρ⟩

/-- Each device's input, as the launch stages it. -/
def ins0 (c : Dev nD) : Con F := (win0_0.blk (0 : Fin 1)).view.read (Elt F) ((s₀ m ρ).mem ((c : Thread nD τ).loc main_arg0))

/-- What a device's body starts from besides its staged buffers. -/
def begun (c : Dev nD) : sProp 𝕄 := iprop(readied (ins0 m ρ) c ∗ credits (ins0 m ρ) c ∗ levAts L lv)
def Φ₀ (c : Dev nD) : sProp 𝕄 := iprop(begun m ρ c ∗ ∃ f, cAt c Finset.univ f)

/-- What the launch theorem is told of a device: its arrays, what the body leaves, and what it owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => ins0 m ρ c
    | ⟨1, _⟩ => finBuf (ins0 m ρ) c
  Φ t := match t with
    | ⟨0, _⟩ => Φ₀ m ρ c
    | ⟨_ + 1, _⟩ => leaves c
  q _ := fullShare
  owed t := match t with
    | ⟨0, _⟩ => owe0 c
    | ⟨_ + 1, _⟩ => 0

theorem owns_whole (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) ((c : Thread nD τ).loc b), ⌜f = Y⌝ ∗ (((c : Thread nD τ).loc b) ↦{fullShare} f)) := by
  unfold owns
  simp only [Memref.view_whole, View.read_whole, View.set_whole]

/-! ## The body obligation -/

/-- A staged buffer at given contents. -/
abbrev stg (c : Dev nD) (b : Ref sig .tc) (Y : b.ty.Contents (Elt F)) : sProp 𝕄 :=
  iprop(∃ f : Buf (Elt F) ((c : Thread nD τ).loc b), ⌜f = Y⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(leaves c ∗ (dats m ρ 0 c).owesAt () t0_0.succ ∗ stg c cc0_stg0_0 (ins0 m ρ c) ∗ stg c cc0_stg1_0 (finBuf (ins0 m ρ) c))

theorem staged_in (c : Dev nD) (d : (cfg0.win 0).block.Idx → Elt F (cfg0.win 0).elt) : (dats m ρ 0 c).before (0 : Fin 2) t0_0 d = ins0 m ρ c := by
  unfold Dat.before
  rw [if_pos (fetch0_0 t0_0)]
  rfl

theorem body_run' (c : Dev nD) : bodyPre m ρ c ⊢ wpc c body (fun _ => bodyPost m ρ c) := by
  unfold bodyPre Φ₀ begun readied
  iintro ⟨⟨⟨⟨⟨%K, HK⟩, HL⟩, Hc, Hlev⟩, Hcm⟩, HO, ⟨%d, ⟨%f, %hf, Hx⟩⟩, ⟨%d', ⟨%f', %hf', Ho⟩⟩⟩
  rw [staged_in] at hf
  subst hf
  unfold Dat.owesAt Pipeline.owesWithin
  icases HO with ⟨%W, %hW, HO⟩
  rw [show (dats m ρ 0 c).owed t0_0.castSucc = owe0 c from rfl]
  iapply (body_run (ins0 m ρ) K c (fun _ => bodyPost m ρ c)) $$ [HK HL Hc Hlev Hcm HO Hx Ho]
  · isplitl [HK Hlev]
    · unfold known recs
      icases HK with ⟨HI, HR⟩
      isplitl [HI]; · iexact HI
      isplitl [HR]; · iexact HR
      iexact Hlev
    isplitl [HL]; · iexact HL
    isplitl [Hc]; · iexact Hc
    isplitl [Hcm]; · iexact Hcm
    isplitl [HO]; · iexists W; iexact HO
    isplitl [Hx]; · iexact Hx
    iexists f'; iexact Ho
  iintro ⟨Hl, ⟨%W', HO⟩, Hx, Ho⟩
  unfold bodyPost Dat.owesAt Pipeline.owesWithin
  rw [show (dats m ρ 0 c).owed t0_0.succ = 0 from rfl]
  isplitl [Hl]; · iexact Hl
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

theorem windows (Φ : Fin cfg0.W → sProp 𝕄) : bigSep Finset.univ Φ = iprop(Φ (0 : Fin 2) ∗ Φ (1 : Fin 2)) := bigSep_W0 Φ

/-- The launch theorem's body obligation. -/
theorem body_obligation (c : Dev nD) : BodyObligation (dats (F := F) m ρ 0 c) (defs₀ (F := F)) 𝒱₀ () Set.univ := fun t => by
  rw [fin_N0 t]
  rw [windows, windows]
  simp only [owns_whole]
  exact body_run' m ρ c

/-! ## The launch -/

theorem share_eq (c : Dev nD) (w : Fin cfg0.W) : (dats m ρ 0 c).share w = fullShare := by unfold Dat.share; split <;> rfl

/-- The launch's element. -/
def u₀ : UU := (initOf (Pipeline.cells cfgs cellOf_inj) (Pipeline.launchToks cfgs cellOf_inj), initOf allCells allToks)

theorem begun_intro (c : Dev nD) :
    iprop(Pipeline.unscopedRestP Pipeline.Prefetch.none cfg0.spec c (fun b => m ((c : Thread nD τ).loc b)) ∗ levAts L lv
        ∗ Pipeline.launchCred owe0 c ∗ prngReg c (ρ c) ∗ readied (ins0 m ρ) c)
      ⊢ |={Set.univ}=> iprop(begun m ρ c ∗ emp) := by
  iintro ⟨-, Hlev, Hcr, -, HG⟩
  ihave Hc := (creds (ins0 m ρ) c) $$ Hcr
  imodintro
  unfold begun
  isplitl
  · isplitl [HG]; · iexact HG
    isplitl [Hc]; · iexact Hc
    iexact Hlev
  · iempintro

theorem enter (c : Dev nD) :
    iprop(begun m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = leaves c from rfl, scopedRest0_eq]
  unfold leaves
  rw [counters_eq]
  iintro ⟨Hr, Hu, Ho⟩
  isplitl [Hu]; · iexact Hu
  isplitl [Ho]; · iexact Ho
  iexact Hr

theorem sem_stage (w : Fin cfg0.W) (s) : semLev (.dma ((cfg0.win w).sem s)) = 0 := by
  revert w s; decide +kernel

/-- Waiting for a staged buffer is below everything owed. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · refine mayWait c _ prog fun o ho k hk => ?_
      rw [sem_stage w s]
      have h : ∀ o ∈ prog, ∀ k, o.owes = some k → 0 < k := by
        have h' : ∀ o ∈ prog, (o.owes.all fun k => decide (0 < k)) = true := by decide +kernel
        intro o ho k hk
        have := h' o ho
        rw [hk] at this
        exact of_decide_eq_true this
      exact h o ho k hk
    · show _ ⊢ MayWait _ _ () 0
      rw [MayWait_zero]; iintro -; iempintro

/-- What the arrays hold at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters the 32 devices' kernels terminate, and every final state has each device's arrays
    at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owe0) (howed₀ := fun _ => rfl) (howedN := fun _ => rfl)
    (L := L) (lv := lv) (hL := L_of_ne) (hwaits := waits m ρ)
    (G := dealt (ins0 m ρ)) (G' := readied (ins0 m ρ)) (u₀ := u₀)
    (hu₀ := by
      unfold u₀
      iintro Hu
      ihave H := (ownU_pair _ _) $$ Hu
      icases H with ⟨HP, HX⟩
      imod (fund_all (ins0 m ρ)) $$ HX with HG
      imodintro
      isplitl [HP] <;> iassumption)
    (hglob := glob (ins0 m ρ))
    (hA := fun _ _ => rfl) (hpf := fun _ k => k.elim0)
    (X := begun m ρ) (Y := fun c => unscopedSems0 c) (Z := fun _ => iprop(emp))
    (hX := begun_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold -/

theorem finalA_in (c : Dev nD) : finalA m ρ c (0 : Fin 2) = m ((c : Thread nD τ).loc main_arg0) :=
  (dats (F := F) m ρ 0 c).arrAt_in (0 : Fin 2) rfl _

/-- The staged input is the device's argument. -/
theorem ins0_eq (c : Dev nD) : ins0 m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The result array holds what the body left in its staged buffer. -/
theorem finalA_out (c : Dev nD) : finalA m ρ c (1 : Fin 2) = finBuf (ins0 m ρ) c := by
  have h1 : (win0_1.blk (0 : Fin 1)).view.read (Elt F) (finalA m ρ c (1 : Fin 2)) = finBuf (ins0 m ρ) c := by
    unfold finalA
    rw [show cfg0.N = ((0 : Fin 1) : Fin cfg0.N).val + 1 from rfl, (dats m ρ 0 c).arrAt_succ (1 : Fin 2) (0 : Fin 1)]
    rw [if_pos (flush0_1 (0 : Fin 1))]
    exact View.read_write_univ _ _
  have hz : (fun a => (win0_1.index (0 : Fin 1)) a * main_v1.ty.shape.size a) = fun _ => 0 :=
    funext fun a => by fin_cases a <;> decide
  have h2 := Memref.read_access_unit_zero (Elt F) main_v1 hz (fun a => by fin_cases a <;> decide) (finalA m ρ c (1 : Fin 2))
  exact h2.symm.trans h1

/-- The arguments of all devices. -/
def args (c : Dev nD) : Con F := m ((c : Thread nD τ).loc main_arg0)

/-- From any memory with zero counters the kernel terminates on all devices; each device's argument is unchanged, its
    result holds in each band the sum that the band's owner accumulated along its ring, and every counter is zero. -/
theorem run_value : θ_run defs (onTc (τ := τ) (main (F := F))) (s₀ m ρ) (fun r =>
    (∀ c : Dev nD, r.2.mem ((c : Thread nD τ).loc main_v1) = finBuf (args m) c
      ∧ r.2.mem ((c : Thread nD τ).loc main_arg0) = m ((c : Thread nD τ).loc main_arg0)) ∧ r.2.sem = fun _ => 0) := by
  have hX : ins0 m ρ = args m := funext (ins0_eq m ρ)
  refine (θ_run defs _ _).mono (fun r h => ⟨fun c => ⟨(h.1 c (1 : Fin 2)).trans ?_, (h.1 c (0 : Fin 2)).trans (finalA_in m ρ c)⟩, h.2⟩) (run_main m ρ)
  rw [finalA_out, hX]

end Cert.KernelIdeal.Run

end
-- ==== Proof.AllReduce.Total.lean ====
/-
# The sum of the four blocks

What the reference computes and what the kernel's finished sums are, both as the sum of the four blocks of the whole
array, and so that they are equal over the extended reals.
-/
module

public import proofs.«01_k».proof.Proof.RunIdeal.Launch
public import proofs.«01_k».proof.Proof.Gen.ReferenceIdeal.Run
public import Idealize.ShloMosaic.Lib.IdealHost
public import Idealize.ShloMosaic.Lib.Layout
public import Idealize.ShloMosaic.Lib.Pointwise

@[expose] public section

noncomputable section

namespace Cert.Total

open Idealize.ShloMosaic Idealize.ShloMosaic.TcCoe

/-- An element of the whole array. -/
abbrev Whole : Type := (⟨2, ![16384, 1024]⟩ : Shape).Idx → EReal

/-- Row `r` of block `z`. -/
def rowIn (z : Fin 4) (r : Fin 4096) : Fin 16384 := ⟨z.val * 4096 + r.val, by omega⟩

/-- The sum of the four blocks. -/
def total (w : Whole) : (⟨2, ![4096, 1024]⟩ : Shape).Idx → EReal := fun i => ∑ z : Fin 4, w (ix2 (rowIn z (i 0)) (i 1))

/-- The reference's result is the sum of the four blocks. -/
theorem ref_total (w : Whole) :
    (Host.reduceAdd (F := Ideal) (φ := .f32) (shapeCast Cert.ReferenceIdeal.S4x4096x1024 w Cert.ReferenceIdeal.Gen.facts.shapeCasts_S16384x1024_S4x4096x1024)
      (constant (F := Ideal) Cert.ReferenceIdeal.S_ .f32 0x00000000#32) Cert.ReferenceIdeal.Gen.facts.reducesTo_S4x4096x1024_S4096x1024_d0 Cert.ReferenceIdeal.Gen.facts.h_S_)
      = total w := by
  funext i
  rw [ValueIdx.hostReduceAdd_apply, Ideal.hostReduceAdd_r3_a0]
  pointwise
  rfl

/-- The block of the whole array that a device holds is that of its place along its ring. -/
theorem block_at (w : Whole) (c : Fin 32) (i : (⟨2, ![4096, 1024]⟩ : Shape).Idx) :
    Layout.blockN ⟨2, ![4096, 1024]⟩ ⟨2, ![16384, 1024]⟩ (Layout.meshBlock [2, 4, 4] ![[2], []] c) w (by decide) i
      = w (ix2 (rowIn ⟨c.val % 4, Nat.mod_lt _ (by decide)⟩ (i 0)) (i 1)) := by
  rw [Layout.blockN_apply]
  refine congrArg w (funext fun b => Fin.ext ?_)
  have h0 : ∀ c : Fin 32, ((Layout.meshBlock [2, 4, 4] ![[2], []] c : (b : Fin 2) → Fin (Layout.cutSize [2, 4, 4] ((![[2], []] : Fin 2 → List Nat) b))) 0).val = c.val % 4 := by decide +kernel
  have h1 : ∀ c : Fin 32, ((Layout.meshBlock [2, 4, 4] ![[2], []] c : (b : Fin 2) → Fin (Layout.cutSize [2, 4, 4] ((![[2], []] : Fin 2 → List Nat) b))) 1).val = 0 := by decide +kernel
  rw [Layout.TilesN.idx_val]
  fin_cases b
  · show _ * 4096 + (i 0).val = c.val % 4 * 4096 + (i 0).val
    exact congrArg (fun n => n * 4096 + (i 0).val) (h0 c)
  · show _ * 1024 + (i 1).val = (i 1).val
    refine (congrArg (fun n => n * 1024 + (i 1).val) (h1 c)).trans (by omega)

/-- Adding around a ring of four, from anywhere, adds up all four. -/
theorem ring_sum (f : Fin 4 → EReal) (z : Fin 4) : f z + (f (z + 3) + (f (z + 3 + 3) + f (z + 3 + 3 + 3))) = ∑ k, f k := by
  rw [Fin.sum_univ_four]
  fin_cases z
  · show f 0 + (f 3 + (f 2 + f 1)) = _; abel
  · show f 1 + (f 0 + (f 3 + f 2)) = _; abel
  · show f 2 + (f 1 + (f 0 + f 3)) = _; abel
  · show f 3 + (f 2 + (f 1 + f 0)) = _; abel

open Cert.KernelIdeal.Run Cert.AllReduce in
/-- If every device holds its block of the whole array, every device's finished sums are the sum of the four blocks. -/
theorem fin_total (X : Fin 32 → Con Ideal) (w : Whole)
    (hX : ∀ c : Fin 32, X c = Layout.blockN ⟨2, ![4096, 1024]⟩ ⟨2, ![16384, 1024]⟩ (Layout.meshBlock [2, 4, 4] ![[2], []] c) w) (c : Fin 32) :
    finBuf X c = total w := by
  funext i
  have hx : ∀ c : Fin 32, (X c i : EReal) = (fun z : Fin 4 => w (ix2 (rowIn z (i 0)) (i 1))) ⟨c.val % 4, Nat.mod_lt _ (by decide)⟩ := fun c => by
    rw [hX c, block_at]
  have hp : ∀ c : Fin 32, (⟨(prv c).val % 4, Nat.mod_lt _ (by decide)⟩ : Fin 4) = ⟨c.val % 4, Nat.mod_lt _ (by decide)⟩ + 3 := by decide +kernel
  generalize hd : owner c (bandOf i) = d
  show part X 3 (owner c (bandOf i)) i = _
  rw [hd]
  show (X d i : EReal) + ((X (prv d) i : EReal) + ((X (prv (prv d)) i : EReal) + (X (prv (prv (prv d))) i : EReal))) = _
  rw [hx, hx, hx, hx, hp (prv (prv d)), hp (prv d), hp d]
  exact ring_sum (fun z : Fin 4 => w (ix2 (rowIn z (i 0)) (i 1))) _

end Cert.Total

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RunKernel.Launch
public import proofs.«01_k».proof.Proof.RunIdeal.Launch
public import proofs.«01_k».proof.Proof.AllReduce.Total
public import Idealize.ShloMosaic.Adequacy
public import Idealize.ShloMosaic.Init

@[expose] public section

noncomputable section

namespace Cert.Proof

open Idealize.ShloMosaic Idealize.SL.Sem Cert.Kernel

/-- The kernel on bit patterns runs, leaves its argument as it was, and ends with every counter at zero. -/
theorem frame_kernel : Cert.quiescent_Kernel := fun m g _ =>
  (θ_run _ _ _).mono (fun _ h => ⟨fun c => (h.1 c).2, h.2⟩) (Cert.Kernel.Run.run_value m g)

/-- The idealized kernel likewise. -/
theorem frame_ideal : Cert.quiescent_KernelIdeal := fun m g _ =>
  (θ_run _ _ _).mono (fun _ h => ⟨fun c => (h.1 c).2, h.2⟩) (Cert.KernelIdeal.Run.run_value m g)

/-- The reference likewise: it has no semaphores. -/
theorem frame_reference : Cert.quiescent_ReferenceIdeal := fun m g _ =>
  (θ_run _ _ _).mono (fun r h => ⟨fun c => (h c).2, sem_eq_zero_of_no_sems (by decide) r.2⟩) (Cert.ReferenceIdeal.Value.run m g)

/-- The idealized kernel and the reference both end with the sum of the four blocks. -/
theorem same_sum : Cert.algebraic_KernelIdeal_ReferenceIdeal := fun m g m' g' _ hX =>
  ⟨Cert.Total.total (m' (((0 : Dev Cert.ReferenceIdeal.nD).tc : Thread Cert.ReferenceIdeal.nD Cert.ReferenceIdeal.τ).loc Cert.ReferenceIdeal.main_arg0)),
    (θ_run _ _ _).mono (fun _ h c => ⟨(h.1 c).1.trans (Cert.Total.fin_total _ _ hX c), (h.1 c).2⟩) (Cert.KernelIdeal.Run.run_value m g),
    (θ_run _ _ _).mono (fun _ h => ⟨(h 0).1.trans (Cert.Total.ref_total _), (h 0).2⟩) (Cert.ReferenceIdeal.Value.run m' g')⟩

theorem claim : Cert.Claim := ⟨Cert.Kernel.Gen.facts, Cert.KernelIdeal.Gen.facts, Cert.ReferenceIdeal.Gen.facts,
  frame_kernel, frame_ideal, frame_reference, trivial, same_sum⟩

end Cert.Proof

end
